-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_proper [hPre_logits_proper : Cert.Pre_logits_proper.Facts] (m : (ℓ : Loc Cert.KernelIdeal.nD Cert.KernelIdeal.τ Cert.KernelIdeal.sig) → Buf (Elt Ideal) ℓ) : Prop :=
  ∀ c : Dev Cert.KernelIdeal.nD,
    (Cert.Pre_logits_proper.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_proper [hPre_logits_proper : Cert.Pre_logits_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_proper.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_logits_proper [hKernelIdeal : Cert.KernelIdeal.Facts] [hPre_logits_proper : Cert.Pre_logits_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_logits_proper [hReferenceIdeal : Cert.ReferenceIdeal.Facts] [hPre_logits_proper : Cert.Pre_logits_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_logits_proper [hKernelIdeal : Cert.KernelIdeal.Facts] [hReferenceIdeal : Cert.ReferenceIdeal.Facts] [hPre_logits_proper : Cert.Pre_logits_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_logits_proper : Cert.Pre_logits_proper.Facts),
    quiescent_Kernel (hKernel := hKernel)
    ∧ quiescent_KernelIdeal (hKernelIdeal := hKernelIdeal)
    ∧ quiescent_KernelIdeal_pre_logits_proper (hKernelIdeal := hKernelIdeal) (hPre_logits_proper := hPre_logits_proper)
    ∧ quiescent_ReferenceIdeal (hReferenceIdeal := hReferenceIdeal)
    ∧ quiescent_ReferenceIdeal_pre_logits_proper (hReferenceIdeal := hReferenceIdeal) (hPre_logits_proper := hPre_logits_proper)
    ∧ preserves_Kernel_KernelIdeal
    ∧ algebraic_KernelIdeal_ReferenceIdeal_pre_logits_proper (hKernelIdeal := hKernelIdeal) (hReferenceIdeal := hReferenceIdeal) (hPre_logits_proper := hPre_logits_proper)
-- ==== Pre_logits_proper.lean ====
abbrev S32x1000000 : Shape := ⟨2, ![32, 1000000]⟩
abbrev S_ : Shape := ⟨0, ![]⟩
abbrev S32 : Shape := ⟨1, ![32]⟩

class Facts : Prop where
  bcast_S_S32x1000000 : S_.BroadcastsInDim S32x1000000 (![] : Fin 0 → Fin S32x1000000.rank)
  reducesTo_S32x1000000_S_d0_1 : S32x1000000.ReducesTo [0, 1] S_
  h_S_ : 0 < S_.numel
  reducesTo_S32x1000000_S32_d1 : S32x1000000.ReducesTo [1] S32
  reducesTo_S32_S_d0 : S32.ReducesTo [0] S_

variable [Facts]

def fn {F : FTy → Type} [FloatOps F] (main_arg0 : FVec F S32x1000000 .f32) : IVec S_ 1 :=
  let main_cst : FVec F S_ .f32 := constant S_ .f32 0x7F800000#32
  let main_v0 : FVec F S32x1000000 .f32 := broadcastInDim S32x1000000 ![] bcast_S_S32x1000000 main_cst
  let main_v1 : IVec S32x1000000 1 := cmpf .olt main_arg0 main_v0
  let main_c : IVec S_ 1 := constantI S_ 1 1#1
  let main_v2 : IVec S_ 1 := (fun x v => Host.reduce IntOp.andi x v reducesTo_S32x1000000_S_d0_1 h_S_) main_v1 main_c
  let main_cst_0 : FVec F S_ .f32 := constant S_ .f32 0xFF800000#32
  let main_v3 : FVec F S32x1000000 .f32 := broadcastInDim S32x1000000 ![] bcast_S_S32x1000000 main_cst_0
  let main_v4 : IVec S32x1000000 1 := cmpf .ogt main_arg0 main_v3
  let main_c_1 : IVec S_ 1 := constantI S_ 1 0#1
  let main_v5 : IVec S32 1 := (fun x v => Host.reduce IntOp.ori x v reducesTo_S32x1000000_S32_d1 h_S_) main_v4 main_c_1
  let main_c_2 : IVec S_ 1 := constantI S_ 1 1#1
  let main_v6 : IVec S_ 1 := (fun x v => Host.reduce IntOp.andi x v reducesTo_S32_S_d0 h_S_) main_v5 main_c_2
  let main_v7 : IVec S_ 1 := andi main_v2 main_v6
  main_v7
-- ==== Kernel.lean ====
abbrev S32x1000000 : Shape := ⟨2, ![32, 1000000]⟩
abbrev S_ : Shape := ⟨0, ![]⟩
abbrev S1 : Shape := ⟨1, ![1]⟩
abbrev S2 : Shape := ⟨1, ![2]⟩
abbrev S1x1 : Shape := ⟨2, ![1, 1]⟩
abbrev S32x1 : Shape := ⟨2, ![32, 1]⟩
abbrev S32x16384 : Shape := ⟨2, ![32, 16384]⟩
abbrev S32x128 : Shape := ⟨2, ![32, 128]⟩
abbrev S32 : Shape := ⟨1, ![32]⟩

abbrev nBuf : Space → Nat
  | .hbm => 284
  | .vmem => 13
  | .smem => 0
  | _ => 0

abbrev hbmTy0_0 (i : Nat) : BufTy := match i % 128 with
  | 0 => ⟨S32x1000000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S32x1000000, .i64⟩
  | 21 => ⟨S32x1000000, .i64⟩
  | 22 => ⟨S_, .i64⟩
  | 23 => ⟨S32x1000000, .i64⟩
  | 24 => ⟨S32x1000000, .i64⟩
  | 25 => ⟨S_, .i64⟩
  | 26 => ⟨S32x1000000, .i64⟩
  | 27 => ⟨S32x1000000, .i64⟩
  | 28 => ⟨S32x1000000, .i64⟩
  | 29 => ⟨S_, .i64⟩
  | 30 => ⟨S32x1000000, .i64⟩
  | 31 => ⟨S32x1000000, .i64⟩
  | 32 => ⟨S32x1000000, .i32⟩
  | 33 => ⟨S32x1000000, .i32⟩
  | 34 => ⟨S_, .i32⟩
  | 35 => ⟨S_, .i32⟩
  | 36 => ⟨S_, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S32x1000000, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S_, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S32x1000000, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S32x1000000, .i32⟩
  | 110 => ⟨S32x1000000, .i32⟩
  | 111 => ⟨S32x1000000, .i32⟩
  | 112 => ⟨S_, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S32x1000000, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S32x1000000, .i32⟩
  | _ => ⟨S32x1000000, .f32⟩

abbrev hbmTy0_1 (i : Nat) : BufTy := match i % 128 with
  | 0 => ⟨S_, .i32⟩
  | 1 => ⟨S32x1000000, .i32⟩
  | 2 => ⟨S32x1000000, .i32⟩
  | 3 => ⟨S_, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S32x1000000, .i32⟩
  | 16 => ⟨S32x1000000, .i32⟩
  | 17 => ⟨S32x1000000, .i32⟩
  | 18 => ⟨S_, .i32⟩
  | 19 => ⟨S32x1000000, .i32⟩
  | 20 => ⟨S32x1000000, .i32⟩
  | 21 => ⟨S_, .i32⟩
  | 22 => ⟨S32x1000000, .i32⟩
  | 23 => ⟨S32x1000000, .i32⟩
  | 24 => ⟨S32x1000000, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S32x1000000, .i32⟩
  | 34 => ⟨S32x1000000, .i32⟩
  | 35 => ⟨S32x1000000, .i32⟩
  | 36 => ⟨S32x1000000, .i32⟩
  | 37 => ⟨S32x1000000, .i32⟩
  | 38 => ⟨S32x1000000, .i32⟩
  | 39 => ⟨S_, .i32⟩
  | 40 => ⟨S32x1000000, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S_, .i32⟩
  | 47 => ⟨S32x1000000, .i32⟩
  | 48 => ⟨S32x1000000, .i32⟩
  | 49 => ⟨S32x1000000, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S_, .i32⟩
  | 56 => ⟨S32x1000000, .i32⟩
  | 57 => ⟨S32x1000000, .i32⟩
  | 58 => ⟨S32x1000000, .i32⟩
  | 59 => ⟨S32x1000000, .i32⟩
  | 60 => ⟨S32x1000000, .i32⟩
  | 61 => ⟨S_, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S32x1000000, .i32⟩
  | 68 => ⟨S32x1000000, .i32⟩
  | 69 => ⟨S32x1000000, .i32⟩
  | 70 => ⟨S_, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S_, .i32⟩
  | 90 => ⟨S32x1000000, .i32⟩
  | 91 => ⟨S32x1000000, .i32⟩
  | 92 => ⟨S32x1000000, .i32⟩
  | 93 => ⟨S32x1000000, .i32⟩
  | 94 => ⟨S32x1000000, .i32⟩
  | 95 => ⟨S_, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S32x1000000, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S_, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_2 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S_, .i32⟩
  | 5 => ⟨S32x1000000, .i32⟩
  | 6 => ⟨S32x1000000, .i32⟩
  | 7 => ⟨S32x1000000, .f32⟩
  | 8 => ⟨S_, .f32⟩
  | 9 => ⟨S32x1000000, .f32⟩
  | 10 => ⟨S32x1000000, .f32⟩
  | 11 => ⟨S1x1, .f32⟩
  | 12 => ⟨S32x1000000, .f32⟩
  | 13 => ⟨S32x1000000, .f32⟩
  | 14 => ⟨S32x1000000, .f32⟩
  | 15 => ⟨S32x1000000, .f32⟩
  | 16 => ⟨S32x1000000, .f32⟩
  | 17 => ⟨S32x1000000, .f32⟩
  | 18 => ⟨S32x1000000, .f32⟩
  | 19 => ⟨S32x1000000, .f32⟩
  | 20 => ⟨S32x1000000, .f32⟩
  | 21 => ⟨S32x1000000, .f32⟩
  | 22 => ⟨S32x1, .i32⟩
  | 23 => ⟨S32x1, .f32⟩
  | 24 => ⟨S32x1, .f32⟩
  | 25 => ⟨S32, .i32⟩
  | 26 => ⟨S32, .f32⟩
  | 27 => ⟨S32, .f32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x1, .i32⟩
  | .local _ .vmem, ⟨5, _⟩ => ⟨S32x1, .f32⟩
  | .local _ .vmem, ⟨6, _⟩ => ⟨S32x1, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .i32⟩
  | .local _ .vmem, ⟨12, _⟩ => ⟨S32x128, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8_0 : Ref sig .tc := ⟨.hbm, 278, rfl⟩
abbrev main_v8_1 : Ref sig .tc := ⟨.hbm, 279, rfl⟩
abbrev main_v8_2 : Ref sig .tc := ⟨.hbm, 280, rfl⟩
abbrev main_v9 : Ref sig .tc := ⟨.hbm, 281, rfl⟩
abbrev main_v10 : Ref sig .tc := ⟨.hbm, 282, rfl⟩
abbrev main_v11 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![62], ![false]⟩

def k0_cond4 (i : grid0.Coords) : BitVec 1 :=
  let arg0 : BitVec 32 := BitVec.ofNat 32 (i 0).val
  let c61_i32_6 : BitVec 32 := 61#32
  let v10 : BitVec 1 := Scalar.cmpi .eq arg0 c61_i32_6
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩
abbrev S1x1 : Shape := ⟨2, ![1, 1]⟩
abbrev S32x1x1 : Shape := ⟨3, ![32, 1, 1]⟩
abbrev S1x1x1 : Shape := ⟨3, ![1, 1, 1]⟩

abbrev nBuf : Space → Nat
  | .hbm => 326
  | .vmem => 0
  | .smem => 0
  | _ => 0

abbrev hbmTy0_0 (i : Nat) : BufTy := match i % 128 with
  | 0 => ⟨S32x1000000, .f32⟩
  | 1 => ⟨S_, .f32⟩
  | 2 => ⟨S32, .f32⟩
  | 3 => ⟨S32x1, .f32⟩
  | 4 => ⟨S32x1000000, .f32⟩
  | 5 => ⟨S32x1000000, .f32⟩
  | 6 => ⟨S32x1000000, .f32⟩
  | 7 => ⟨S_, .f32⟩
  | 8 => ⟨S32, .f32⟩
  | 9 => ⟨S32x1, .f32⟩
  | 10 => ⟨S32x1, .f32⟩
  | 11 => ⟨S32x1, .f32⟩
  | 12 => ⟨S32x1000000, .f32⟩
  | 13 => ⟨S32x1000000, .f32⟩
  | 14 => ⟨S32x1000000, .f32⟩
  | 15 => ⟨S32x1000000, .f32⟩
  | 16 => ⟨S_, .f32⟩
  | 17 => ⟨S32, .f32⟩
  | 18 => ⟨S32, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S_, .f32⟩
  | 30 => ⟨S_, .f32⟩
  | 31 => ⟨S_, .f32⟩
  | 32 => ⟨S1x1, .f32⟩
  | 33 => ⟨S1x1, .f32⟩
  | 34 => ⟨S1, .i32⟩
  | 35 => ⟨S_, .i32⟩
  | 36 => ⟨S1, .i32⟩
  | 37 => ⟨S_, .i32⟩
  | 38 => ⟨S32x1000000, .i64⟩
  | 39 => ⟨S32x1000000, .i64⟩
  | 40 => ⟨S_, .i64⟩
  | 41 => ⟨S32x1000000, .i64⟩
  | 42 => ⟨S32x1000000, .i64⟩
  | 43 => ⟨S_, .i64⟩
  | 44 => ⟨S32x1000000, .i64⟩
  | 45 => ⟨S32x1000000, .i64⟩
  | 46 => ⟨S32x1000000, .i64⟩
  | 47 => ⟨S_, .i64⟩
  | 48 => ⟨S32x1000000, .i64⟩
  | 49 => ⟨S32x1000000, .i64⟩
  | 50 => ⟨S32x1000000, .i32⟩
  | 51 => ⟨S32x1000000, .i32⟩
  | 52 => ⟨S_, .i32⟩
  | 53 => ⟨S_, .i32⟩
  | 54 => ⟨S_, .i32⟩
  | 55 => ⟨S32x1000000, .i32⟩
  | 56 => ⟨S32x1000000, .i32⟩
  | 57 => ⟨S32x1000000, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S32x1000000, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S32x1000000, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S32x1000000, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S32x1000000, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S32x1000000, .i32⟩
  | 110 => ⟨S32x1000000, .i32⟩
  | 111 => ⟨S32x1000000, .i32⟩
  | 112 => ⟨S_, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S32x1000000, .i32⟩
  | 119 => ⟨S32x1000000, .i32⟩
  | 120 => ⟨S32x1000000, .i32⟩
  | 121 => ⟨S_, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S32x1000000, .i32⟩
  | _ => ⟨S32x1000000, .f32⟩

abbrev hbmTy0_1 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S_, .i32⟩
  | 6 => ⟨S32x1000000, .i32⟩
  | 7 => ⟨S32x1000000, .i32⟩
  | 8 => ⟨S32x1000000, .i32⟩
  | 9 => ⟨S32x1000000, .i32⟩
  | 10 => ⟨S32x1000000, .i32⟩
  | 11 => ⟨S32x1000000, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S32x1000000, .i32⟩
  | 18 => ⟨S_, .i32⟩
  | 19 => ⟨S32x1000000, .i32⟩
  | 20 => ⟨S32x1000000, .i32⟩
  | 21 => ⟨S_, .i32⟩
  | 22 => ⟨S32x1000000, .i32⟩
  | 23 => ⟨S32x1000000, .i32⟩
  | 24 => ⟨S32x1000000, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S32x1000000, .i32⟩
  | 34 => ⟨S32x1000000, .i32⟩
  | 35 => ⟨S32x1000000, .i32⟩
  | 36 => ⟨S_, .i32⟩
  | 37 => ⟨S32x1000000, .i32⟩
  | 38 => ⟨S32x1000000, .i32⟩
  | 39 => ⟨S_, .i32⟩
  | 40 => ⟨S32x1000000, .i32⟩
  | 41 => ⟨S32x1000000, .i32⟩
  | 42 => ⟨S32x1000000, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S_, .i32⟩
  | 49 => ⟨S32x1000000, .i32⟩
  | 50 => ⟨S32x1000000, .i32⟩
  | 51 => ⟨S32x1000000, .i32⟩
  | 52 => ⟨S32x1000000, .i32⟩
  | 53 => ⟨S32x1000000, .i32⟩
  | 54 => ⟨S32x1000000, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S32x1000000, .i32⟩
  | 61 => ⟨S_, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S32x1000000, .i32⟩
  | 68 => ⟨S32x1000000, .i32⟩
  | 69 => ⟨S32x1000000, .i32⟩
  | 70 => ⟨S_, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S32x1000000, .i32⟩
  | 77 => ⟨S32x1000000, .i32⟩
  | 78 => ⟨S32x1000000, .i32⟩
  | 79 => ⟨S_, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S32x1000000, .i32⟩
  | 86 => ⟨S32x1000000, .i32⟩
  | 87 => ⟨S32x1000000, .i32⟩
  | 88 => ⟨S_, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S32x1000000, .i32⟩
  | 95 => ⟨S32x1000000, .i32⟩
  | 96 => ⟨S32x1000000, .i32⟩
  | 97 => ⟨S32x1000000, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S_, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S32x1000000, .i32⟩
  | 120 => ⟨S32x1000000, .i32⟩
  | 121 => ⟨S32x1000000, .i32⟩
  | 122 => ⟨S_, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_2 (i : Nat) : BufTy := match i % 128 with
  | 0 => ⟨S32x1000000, .i32⟩
  | 1 => ⟨S32x1000000, .i32⟩
  | 2 => ⟨S32x1000000, .i32⟩
  | 3 => ⟨S_, .i32⟩
  | 4 => ⟨S32x1000000, .i32⟩
  | 5 => ⟨S32x1000000, .i32⟩
  | 6 => ⟨S_, .i32⟩
  | 7 => ⟨S32x1000000, .i32⟩
  | 8 => ⟨S32x1000000, .i32⟩
  | 9 => ⟨S32x1000000, .i32⟩
  | 10 => ⟨S32x1000000, .i32⟩
  | 11 => ⟨S32x1000000, .i32⟩
  | 12 => ⟨S32x1000000, .i32⟩
  | 13 => ⟨S32x1000000, .i32⟩
  | 14 => ⟨S32x1000000, .i32⟩
  | 15 => ⟨S_, .i32⟩
  | 16 => ⟨S32x1000000, .i32⟩
  | 17 => ⟨S32x1000000, .i32⟩
  | 18 => ⟨S32x1000000, .i32⟩
  | 19 => ⟨S_, .i32⟩
  | 20 => ⟨S32x1000000, .i32⟩
  | 21 => ⟨S32x1000000, .i32⟩
  | 22 => ⟨S_, .i32⟩
  | 23 => ⟨S32x1000000, .i32⟩
  | 24 => ⟨S32x1000000, .i32⟩
  | 25 => ⟨S32x1000000, .f32⟩
  | 26 => ⟨S_, .f32⟩
  | 27 => ⟨S32x1000000, .f32⟩
  | 28 => ⟨S32x1000000, .f32⟩
  | 29 => ⟨S1x1, .f32⟩
  | 30 => ⟨S32x1000000, .f32⟩
  | 31 => ⟨S32x1000000, .f32⟩
  | 32 => ⟨S32x1000000, .f32⟩
  | 33 => ⟨S32x1000000, .f32⟩
  | 34 => ⟨S32x1000000, .f32⟩
  | 35 => ⟨S32x1000000, .f32⟩
  | 36 => ⟨S32x1000000, .f32⟩
  | 37 => ⟨S32x1000000, .f32⟩
  | 38 => ⟨S32x1000000, .f32⟩
  | 39 => ⟨S32x1000000, .f32⟩
  | 40 => ⟨S32x1000000, .f32⟩
  | 41 => ⟨S32x1000000, .i32⟩
  | 42 => ⟨S_, .f32⟩
  | 43 => ⟨S_, .i32⟩
  | 44 => ⟨S32, .f32⟩
  | 45 => ⟨S32, .i32⟩
  | 46 => ⟨S32x1, .i32⟩
  | 47 => ⟨S_, .i32⟩
  | 48 => ⟨S32x1, .i32⟩
  | 49 => ⟨S32x1, .i1⟩
  | 50 => ⟨S_, .i32⟩
  | 51 => ⟨S32x1, .i32⟩
  | 52 => ⟨S32x1, .i32⟩
  | 53 => ⟨S32x1, .i32⟩
  | 54 => ⟨S32x1x1, .i32⟩
  | 55 => ⟨S1, .i32⟩
  | 56 => ⟨S_, .i32⟩
  | 57 => ⟨S32x1x1, .i32⟩
  | 58 => ⟨S32x1x1, .i1⟩
  | 59 => ⟨S1x1x1, .i32⟩
  | 60 => ⟨S32x1x1, .i32⟩
  | 61 => ⟨S32x1x1, .i1⟩
  | 62 => ⟨S32x1x1, .i1⟩
  | 63 => ⟨S_, .i1⟩
  | 64 => ⟨S32x1, .i1⟩
  | 65 => ⟨S32x1, .f32⟩
  | 66 => ⟨S_, .f32⟩
  | 67 => ⟨S32x1, .f32⟩
  | 68 => ⟨S32x1, .f32⟩
  | 69 => ⟨S32, .f32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_cst_0 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_c_0 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_1 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_call0_v0 : Ref sig .tc := ⟨.hbm, 52, rfl⟩
abbrev main_call0_call0_call0_c : Ref sig .tc := ⟨.hbm, 53, rfl⟩
abbrev main_call0_call0_call0_v1 : Ref sig .tc := ⟨.hbm, 54, rfl⟩
abbrev main_call0_call0_call0_v2 : Ref sig .tc := ⟨.hbm, 55, rfl⟩
abbrev main_call0_call0_call0_v3 : Ref sig .tc := ⟨.hbm, 56, rfl⟩
abbrev main_call0_call0_call0_v4 : Ref sig .tc := ⟨.hbm, 57, rfl⟩
abbrev main_call0_call0_call0_v5 : Ref sig .tc := ⟨.hbm, 58, rfl⟩
abbrev main_call0_call0_call0_v6 : Ref sig .tc := ⟨.hbm, 59, rfl⟩
abbrev main_call0_call0_call0_c_0 : Ref sig .tc := ⟨.hbm, 60, rfl⟩
abbrev main_call0_call0_call0_v7 : Ref sig .tc := ⟨.hbm, 61, rfl⟩
abbrev main_call0_call0_call0_v8 : Ref sig .tc := ⟨.hbm, 62, rfl⟩
abbrev main_call0_call0_call0_c_1 : Ref sig .tc := ⟨.hbm, 63, rfl⟩
abbrev main_call0_call0_call0_v9 : Ref sig .tc := ⟨.hbm, 64, rfl⟩
abbrev main_call0_call0_call0_v10 : Ref sig .tc := ⟨.hbm, 65, rfl⟩
abbrev main_call0_call0_call0_v11 : Ref sig .tc := ⟨.hbm, 66, rfl⟩
abbrev main_call0_call0_call0_v12 : Ref sig .tc := ⟨.hbm, 67, rfl⟩
abbrev main_call0_call0_call0_v13 : Ref sig .tc := ⟨.hbm, 68, rfl⟩
abbrev main_call0_call0_call0_c_2 : Ref sig .tc := ⟨.hbm, 69, rfl⟩
abbrev main_call0_call0_call0_v14 : Ref sig .tc := ⟨.hbm, 70, rfl⟩
abbrev main_call0_call0_call0_v15 : Ref sig .tc := ⟨.hbm, 71, rfl⟩
abbrev main_call0_call0_call0_c_3 : Ref sig .tc := ⟨.hbm, 72, rfl⟩
abbrev main_call0_call0_call0_v16 : Ref sig .tc := ⟨.hbm, 73, rfl⟩
abbrev main_call0_call0_call0_v17 : Ref sig .tc := ⟨.hbm, 74, rfl⟩
abbrev main_call0_call0_call0_v18 : Ref sig .tc := ⟨.hbm, 75, rfl⟩
abbrev main_call0_call0_call0_v19 : Ref sig .tc := ⟨.hbm, 76, rfl⟩
abbrev main_call0_call0_call0_v20 : Ref sig .tc := ⟨.hbm, 77, rfl⟩
abbrev main_call0_call0_call0_c_4 : Ref sig .tc := ⟨.hbm, 78, rfl⟩
abbrev main_call0_call0_call0_v21 : Ref sig .tc := ⟨.hbm, 79, rfl⟩
abbrev main_call0_call0_call0_v22 : Ref sig .tc := ⟨.hbm, 80, rfl⟩
abbrev main_call0_call0_call0_c_5 : Ref sig .tc := ⟨.hbm, 81, rfl⟩
abbrev main_call0_call0_call0_v23 : Ref sig .tc := ⟨.hbm, 82, rfl⟩
abbrev main_call0_call0_call0_v24 : Ref sig .tc := ⟨.hbm, 83, rfl⟩
abbrev main_call0_call0_call0_v25 : Ref sig .tc := ⟨.hbm, 84, rfl⟩
abbrev main_call0_call0_call0_v26 : Ref sig .tc := ⟨.hbm, 85, rfl⟩
abbrev main_call0_call0_call0_v27 : Ref sig .tc := ⟨.hbm, 86, rfl⟩
abbrev main_call0_call0_call0_c_6 : Ref sig .tc := ⟨.hbm, 87, rfl⟩
abbrev main_call0_call0_call0_v28 : Ref sig .tc := ⟨.hbm, 88, rfl⟩
abbrev main_call0_call0_call0_v29 : Ref sig .tc := ⟨.hbm, 89, rfl⟩
abbrev main_call0_call0_call0_c_7 : Ref sig .tc := ⟨.hbm, 90, rfl⟩
abbrev main_call0_call0_call0_v30 : Ref sig .tc := ⟨.hbm, 91, rfl⟩
abbrev main_call0_call0_call0_v31 : Ref sig .tc := ⟨.hbm, 92, rfl⟩
abbrev main_call0_call0_call0_v32 : Ref sig .tc := ⟨.hbm, 93, rfl⟩
abbrev main_call0_call0_call0_v33 : Ref sig .tc := ⟨.hbm, 94, rfl⟩
abbrev main_call0_call0_call0_v34 : Ref sig .tc := ⟨.hbm, 95, rfl⟩
abbrev main_call0_call0_call0_v35 : Ref sig .tc := ⟨.hbm, 96, rfl⟩
abbrev main_call0_call0_call0_v36 : Ref sig .tc := ⟨.hbm, 97, rfl⟩
abbrev main_call0_call0_call0_v37 : Ref sig .tc := ⟨.hbm, 98, rfl⟩
abbrev main_call0_call0_call0_c_8 : Ref sig .tc := ⟨.hbm, 99, rfl⟩
abbrev main_call0_call0_call0_v38 : Ref sig .tc := ⟨.hbm, 100, rfl⟩
abbrev main_call0_call0_call0_v39 : Ref sig .tc := ⟨.hbm, 101, rfl⟩
abbrev main_call0_call0_call0_v40 : Ref sig .tc := ⟨.hbm, 102, rfl⟩
abbrev main_call0_call0_call0_c_9 : Ref sig .tc := ⟨.hbm, 103, rfl⟩
abbrev main_call0_call0_call0_v41 : Ref sig .tc := ⟨.hbm, 104, rfl⟩
abbrev main_call0_call0_call0_v42 : Ref sig .tc := ⟨.hbm, 105, rfl⟩
abbrev main_call0_call0_call0_c_10 : Ref sig .tc := ⟨.hbm, 106, rfl⟩
abbrev main_call0_call0_call0_v43 : Ref sig .tc := ⟨.hbm, 107, rfl⟩
abbrev main_call0_call0_call0_v44 : Ref sig .tc := ⟨.hbm, 108, rfl⟩
abbrev main_call0_call0_call0_v45 : Ref sig .tc := ⟨.hbm, 109, rfl⟩
abbrev main_call0_call0_call0_v46 : Ref sig .tc := ⟨.hbm, 110, rfl⟩
abbrev main_call0_call0_call0_v47 : Ref sig .tc := ⟨.hbm, 111, rfl⟩
abbrev main_call0_call0_call0_c_11 : Ref sig .tc := ⟨.hbm, 112, rfl⟩
abbrev main_call0_call0_call0_v48 : Ref sig .tc := ⟨.hbm, 113, rfl⟩
abbrev main_call0_call0_call0_v49 : Ref sig .tc := ⟨.hbm, 114, rfl⟩
abbrev main_call0_call0_call0_c_12 : Ref sig .tc := ⟨.hbm, 115, rfl⟩
abbrev main_call0_call0_call0_v50 : Ref sig .tc := ⟨.hbm, 116, rfl⟩
abbrev main_call0_call0_call0_v51 : Ref sig .tc := ⟨.hbm, 117, rfl⟩
abbrev main_call0_call0_call0_v52 : Ref sig .tc := ⟨.hbm, 118, rfl⟩
abbrev main_call0_call0_call0_v53 : Ref sig .tc := ⟨.hbm, 119, rfl⟩
abbrev main_call0_call0_call0_v54 : Ref sig .tc := ⟨.hbm, 120, rfl⟩
abbrev main_call0_call0_call0_c_13 : Ref sig .tc := ⟨.hbm, 121, rfl⟩
abbrev main_call0_call0_call0_v55 : Ref sig .tc := ⟨.hbm, 122, rfl⟩
abbrev main_call0_call0_call0_v56 : Ref sig .tc := ⟨.hbm, 123, rfl⟩
abbrev main_call0_call0_call0_c_14 : Ref sig .tc := ⟨.hbm, 124, rfl⟩
abbrev main_call0_call0_call0_v57 : Ref sig .tc := ⟨.hbm, 125, rfl⟩
abbrev main_call0_call0_call0_v58 : Ref sig .tc := ⟨.hbm, 126, rfl⟩
abbrev main_call0_call0_call0_v59 : Ref sig .tc := ⟨.hbm, 127, rfl⟩
abbrev main_call0_call0_call0_v60 : Ref sig .tc := ⟨.hbm, 128, rfl⟩
abbrev main_call0_call0_call0_v61 : Ref sig .tc := ⟨.hbm, 129, rfl⟩
abbrev main_call0_call0_call0_c_15 : Ref sig .tc := ⟨.hbm, 130, rfl⟩
abbrev main_call0_call0_call0_v62 : Ref sig .tc := ⟨.hbm, 131, rfl⟩
abbrev main_call0_call0_call0_v63 : Ref sig .tc := ⟨.hbm, 132, rfl⟩
abbrev main_call0_call0_call0_c_16 : Ref sig .tc := ⟨.hbm, 133, rfl⟩
abbrev main_call0_call0_call0_v64 : Ref sig .tc := ⟨.hbm, 134, rfl⟩
abbrev main_call0_call0_call0_v65 : Ref sig .tc := ⟨.hbm, 135, rfl⟩
abbrev main_call0_call0_call0_v66 : Ref sig .tc := ⟨.hbm, 136, rfl⟩
abbrev main_call0_call0_call0_v67 : Ref sig .tc := ⟨.hbm, 137, rfl⟩
abbrev main_call0_call0_call0_v68 : Ref sig .tc := ⟨.hbm, 138, rfl⟩
abbrev main_call0_call0_call0_v69 : Ref sig .tc := ⟨.hbm, 139, rfl⟩
abbrev main_call0_call0_call0_v70 : Ref sig .tc := ⟨.hbm, 140, rfl⟩
abbrev main_call0_call0_call0_v71 : Ref sig .tc := ⟨.hbm, 141, rfl⟩
abbrev main_call0_call0_call0_c_17 : Ref sig .tc := ⟨.hbm, 142, rfl⟩
abbrev main_call0_call0_call0_v72 : Ref sig .tc := ⟨.hbm, 143, rfl⟩
abbrev main_call0_call0_call0_v73 : Ref sig .tc := ⟨.hbm, 144, rfl⟩
abbrev main_call0_call0_call0_v74 : Ref sig .tc := ⟨.hbm, 145, rfl⟩
abbrev main_call0_call0_call0_c_18 : Ref sig .tc := ⟨.hbm, 146, rfl⟩
abbrev main_call0_call0_call0_v75 : Ref sig .tc := ⟨.hbm, 147, rfl⟩
abbrev main_call0_call0_call0_v76 : Ref sig .tc := ⟨.hbm, 148, rfl⟩
abbrev main_call0_call0_call0_c_19 : Ref sig .tc := ⟨.hbm, 149, rfl⟩
abbrev main_call0_call0_call0_v77 : Ref sig .tc := ⟨.hbm, 150, rfl⟩
abbrev main_call0_call0_call0_v78 : Ref sig .tc := ⟨.hbm, 151, rfl⟩
abbrev main_call0_call0_call0_v79 : Ref sig .tc := ⟨.hbm, 152, rfl⟩
abbrev main_call0_call0_call0_v80 : Ref sig .tc := ⟨.hbm, 153, rfl⟩
abbrev main_call0_call0_call0_v81 : Ref sig .tc := ⟨.hbm, 154, rfl⟩
abbrev main_call0_call0_call0_c_20 : Ref sig .tc := ⟨.hbm, 155, rfl⟩
abbrev main_call0_call0_call0_v82 : Ref sig .tc := ⟨.hbm, 156, rfl⟩
abbrev main_call0_call0_call0_v83 : Ref sig .tc := ⟨.hbm, 157, rfl⟩
abbrev main_call0_call0_call0_c_21 : Ref sig .tc := ⟨.hbm, 158, rfl⟩
abbrev main_call0_call0_call0_v84 : Ref sig .tc := ⟨.hbm, 159, rfl⟩
abbrev main_call0_call0_call0_v85 : Ref sig .tc := ⟨.hbm, 160, rfl⟩
abbrev main_call0_call0_call0_v86 : Ref sig .tc := ⟨.hbm, 161, rfl⟩
abbrev main_call0_call0_call0_v87 : Ref sig .tc := ⟨.hbm, 162, rfl⟩
abbrev main_call0_call0_call0_v88 : Ref sig .tc := ⟨.hbm, 163, rfl⟩
abbrev main_call0_call0_call0_c_22 : Ref sig .tc := ⟨.hbm, 164, rfl⟩
abbrev main_call0_call0_call0_v89 : Ref sig .tc := ⟨.hbm, 165, rfl⟩
abbrev main_call0_call0_call0_v90 : Ref sig .tc := ⟨.hbm, 166, rfl⟩
abbrev main_call0_call0_call0_c_23 : Ref sig .tc := ⟨.hbm, 167, rfl⟩
abbrev main_call0_call0_call0_v91 : Ref sig .tc := ⟨.hbm, 168, rfl⟩
abbrev main_call0_call0_call0_v92 : Ref sig .tc := ⟨.hbm, 169, rfl⟩
abbrev main_call0_call0_call0_v93 : Ref sig .tc := ⟨.hbm, 170, rfl⟩
abbrev main_call0_call0_call0_v94 : Ref sig .tc := ⟨.hbm, 171, rfl⟩
abbrev main_call0_call0_call0_v95 : Ref sig .tc := ⟨.hbm, 172, rfl⟩
abbrev main_call0_call0_call0_c_24 : Ref sig .tc := ⟨.hbm, 173, rfl⟩
abbrev main_call0_call0_call0_v96 : Ref sig .tc := ⟨.hbm, 174, rfl⟩
abbrev main_call0_call0_call0_v97 : Ref sig .tc := ⟨.hbm, 175, rfl⟩
abbrev main_call0_call0_call0_c_25 : Ref sig .tc := ⟨.hbm, 176, rfl⟩
abbrev main_call0_call0_call0_v98 : Ref sig .tc := ⟨.hbm, 177, rfl⟩
abbrev main_call0_call0_call0_v99 : Ref sig .tc := ⟨.hbm, 178, rfl⟩
abbrev main_call0_call0_call0_v100 : Ref sig .tc := ⟨.hbm, 179, rfl⟩
abbrev main_call0_call0_call0_v101 : Ref sig .tc := ⟨.hbm, 180, rfl⟩
abbrev main_call0_call0_call0_v102 : Ref sig .tc := ⟨.hbm, 181, rfl⟩
abbrev main_call0_call0_call0_v103 : Ref sig .tc := ⟨.hbm, 182, rfl⟩
abbrev main_call0_call0_call0_v104 : Ref sig .tc := ⟨.hbm, 183, rfl⟩
abbrev main_call0_call0_call0_v105 : Ref sig .tc := ⟨.hbm, 184, rfl⟩
abbrev main_call0_call0_call0_c_26 : Ref sig .tc := ⟨.hbm, 185, rfl⟩
abbrev main_call0_call0_call0_v106 : Ref sig .tc := ⟨.hbm, 186, rfl⟩
abbrev main_call0_call0_call0_v107 : Ref sig .tc := ⟨.hbm, 187, rfl⟩
abbrev main_call0_call0_call0_v108 : Ref sig .tc := ⟨.hbm, 188, rfl⟩
abbrev main_call0_call0_call0_c_27 : Ref sig .tc := ⟨.hbm, 189, rfl⟩
abbrev main_call0_call0_call0_v109 : Ref sig .tc := ⟨.hbm, 190, rfl⟩
abbrev main_call0_call0_call0_v110 : Ref sig .tc := ⟨.hbm, 191, rfl⟩
abbrev main_call0_call0_call0_c_28 : Ref sig .tc := ⟨.hbm, 192, rfl⟩
abbrev main_call0_call0_call0_v111 : Ref sig .tc := ⟨.hbm, 193, rfl⟩
abbrev main_call0_call0_call0_v112 : Ref sig .tc := ⟨.hbm, 194, rfl⟩
abbrev main_call0_call0_call0_v113 : Ref sig .tc := ⟨.hbm, 195, rfl⟩
abbrev main_call0_call0_call0_v114 : Ref sig .tc := ⟨.hbm, 196, rfl⟩
abbrev main_call0_call0_call0_v115 : Ref sig .tc := ⟨.hbm, 197, rfl⟩
abbrev main_call0_call0_call0_c_29 : Ref sig .tc := ⟨.hbm, 198, rfl⟩
abbrev main_call0_call0_call0_v116 : Ref sig .tc := ⟨.hbm, 199, rfl⟩
abbrev main_call0_call0_call0_v117 : Ref sig .tc := ⟨.hbm, 200, rfl⟩
abbrev main_call0_call0_call0_c_30 : Ref sig .tc := ⟨.hbm, 201, rfl⟩
abbrev main_call0_call0_call0_v118 : Ref sig .tc := ⟨.hbm, 202, rfl⟩
abbrev main_call0_call0_call0_v119 : Ref sig .tc := ⟨.hbm, 203, rfl⟩
abbrev main_call0_call0_call0_v120 : Ref sig .tc := ⟨.hbm, 204, rfl⟩
abbrev main_call0_call0_call0_v121 : Ref sig .tc := ⟨.hbm, 205, rfl⟩
abbrev main_call0_call0_call0_v122 : Ref sig .tc := ⟨.hbm, 206, rfl⟩
abbrev main_call0_call0_call0_c_31 : Ref sig .tc := ⟨.hbm, 207, rfl⟩
abbrev main_call0_call0_call0_v123 : Ref sig .tc := ⟨.hbm, 208, rfl⟩
abbrev main_call0_call0_call0_v124 : Ref sig .tc := ⟨.hbm, 209, rfl⟩
abbrev main_call0_call0_call0_c_32 : Ref sig .tc := ⟨.hbm, 210, rfl⟩
abbrev main_call0_call0_call0_v125 : Ref sig .tc := ⟨.hbm, 211, rfl⟩
abbrev main_call0_call0_call0_v126 : Ref sig .tc := ⟨.hbm, 212, rfl⟩
abbrev main_call0_call0_call0_v127 : Ref sig .tc := ⟨.hbm, 213, rfl⟩
abbrev main_call0_call0_call0_v128 : Ref sig .tc := ⟨.hbm, 214, rfl⟩
abbrev main_call0_call0_call0_v129 : Ref sig .tc := ⟨.hbm, 215, rfl⟩
abbrev main_call0_call0_call0_c_33 : Ref sig .tc := ⟨.hbm, 216, rfl⟩
abbrev main_call0_call0_call0_v130 : Ref sig .tc := ⟨.hbm, 217, rfl⟩
abbrev main_call0_call0_call0_v131 : Ref sig .tc := ⟨.hbm, 218, rfl⟩
abbrev main_call0_call0_call0_c_34 : Ref sig .tc := ⟨.hbm, 219, rfl⟩
abbrev main_call0_call0_call0_v132 : Ref sig .tc := ⟨.hbm, 220, rfl⟩
abbrev main_call0_call0_call0_v133 : Ref sig .tc := ⟨.hbm, 221, rfl⟩
abbrev main_call0_call0_call0_v134 : Ref sig .tc := ⟨.hbm, 222, rfl⟩
abbrev main_call0_call0_call0_v135 : Ref sig .tc := ⟨.hbm, 223, rfl⟩
abbrev main_call0_call0_call0_v136 : Ref sig .tc := ⟨.hbm, 224, rfl⟩
abbrev main_call0_call0_call0_v137 : Ref sig .tc := ⟨.hbm, 225, rfl⟩
abbrev main_call0_call0_call0_v138 : Ref sig .tc := ⟨.hbm, 226, rfl⟩
abbrev main_call0_call0_call0_v139 : Ref sig .tc := ⟨.hbm, 227, rfl⟩
abbrev main_call0_call0_call0_c_35 : Ref sig .tc := ⟨.hbm, 228, rfl⟩
abbrev main_call0_call0_call0_v140 : Ref sig .tc := ⟨.hbm, 229, rfl⟩
abbrev main_call0_call0_call0_v141 : Ref sig .tc := ⟨.hbm, 230, rfl⟩
abbrev main_call0_call0_call0_v142 : Ref sig .tc := ⟨.hbm, 231, rfl⟩
abbrev main_call0_call0_call0_c_36 : Ref sig .tc := ⟨.hbm, 232, rfl⟩
abbrev main_call0_call0_call0_v143 : Ref sig .tc := ⟨.hbm, 233, rfl⟩
abbrev main_call0_call0_call0_v144 : Ref sig .tc := ⟨.hbm, 234, rfl⟩
abbrev main_call0_call0_call0_c_37 : Ref sig .tc := ⟨.hbm, 235, rfl⟩
abbrev main_call0_call0_call0_v145 : Ref sig .tc := ⟨.hbm, 236, rfl⟩
abbrev main_call0_call0_call0_v146 : Ref sig .tc := ⟨.hbm, 237, rfl⟩
abbrev main_call0_call0_call0_v147 : Ref sig .tc := ⟨.hbm, 238, rfl⟩
abbrev main_call0_call0_call0_v148 : Ref sig .tc := ⟨.hbm, 239, rfl⟩
abbrev main_call0_call0_call0_v149 : Ref sig .tc := ⟨.hbm, 240, rfl⟩
abbrev main_call0_call0_call0_c_38 : Ref sig .tc := ⟨.hbm, 241, rfl⟩
abbrev main_call0_call0_call0_v150 : Ref sig .tc := ⟨.hbm, 242, rfl⟩
abbrev main_call0_call0_call0_v151 : Ref sig .tc := ⟨.hbm, 243, rfl⟩
abbrev main_call0_call0_call0_c_39 : Ref sig .tc := ⟨.hbm, 244, rfl⟩
abbrev main_call0_call0_call0_v152 : Ref sig .tc := ⟨.hbm, 245, rfl⟩
abbrev main_call0_call0_call0_v153 : Ref sig .tc := ⟨.hbm, 246, rfl⟩
abbrev main_call0_call0_call0_v154 : Ref sig .tc := ⟨.hbm, 247, rfl⟩
abbrev main_call0_call0_call0_v155 : Ref sig .tc := ⟨.hbm, 248, rfl⟩
abbrev main_call0_call0_call0_v156 : Ref sig .tc := ⟨.hbm, 249, rfl⟩
abbrev main_call0_call0_call0_c_40 : Ref sig .tc := ⟨.hbm, 250, rfl⟩
abbrev main_call0_call0_call0_v157 : Ref sig .tc := ⟨.hbm, 251, rfl⟩
abbrev main_call0_call0_call0_v158 : Ref sig .tc := ⟨.hbm, 252, rfl⟩
abbrev main_call0_call0_call0_c_41 : Ref sig .tc := ⟨.hbm, 253, rfl⟩
abbrev main_call0_call0_call0_v159 : Ref sig .tc := ⟨.hbm, 254, rfl⟩
abbrev main_call0_call0_call0_v160 : Ref sig .tc := ⟨.hbm, 255, rfl⟩
abbrev main_call0_call0_call0_v161 : Ref sig .tc := ⟨.hbm, 256, rfl⟩
abbrev main_call0_call0_call0_v162 : Ref sig .tc := ⟨.hbm, 257, rfl⟩
abbrev main_call0_call0_call0_v163 : Ref sig .tc := ⟨.hbm, 258, rfl⟩
abbrev main_call0_call0_call0_c_42 : Ref sig .tc := ⟨.hbm, 259, rfl⟩
abbrev main_call0_call0_call0_v164 : Ref sig .tc := ⟨.hbm, 260, rfl⟩
abbrev main_call0_call0_call0_v165 : Ref sig .tc := ⟨.hbm, 261, rfl⟩
abbrev main_call0_call0_call0_c_43 : Ref sig .tc := ⟨.hbm, 262, rfl⟩
abbrev main_call0_call0_call0_v166 : Ref sig .tc := ⟨.hbm, 263, rfl⟩
abbrev main_call0_call0_call0_v167 : Ref sig .tc := ⟨.hbm, 264, rfl⟩
abbrev main_call0_call0_call0_v168 : Ref sig .tc := ⟨.hbm, 265, rfl⟩
abbrev main_call0_call0_call0_v169 : Ref sig .tc := ⟨.hbm, 266, rfl⟩
abbrev main_call0_call0_call0_v170 : Ref sig .tc := ⟨.hbm, 267, rfl⟩
abbrev main_call0_call0_v18_0 : Ref sig .tc := ⟨.hbm, 268, rfl⟩
abbrev main_call0_call0_call0_v172 : Ref sig .tc := ⟨.hbm, 269, rfl⟩
abbrev main_call0_call0_call0_v173 : Ref sig .tc := ⟨.hbm, 270, rfl⟩
abbrev main_call0_call0_call0_c_44 : Ref sig .tc := ⟨.hbm, 271, rfl⟩
abbrev main_call0_call0_call0_v174 : Ref sig .tc := ⟨.hbm, 272, rfl⟩
abbrev main_call0_call0_v18_1 : Ref sig .tc := ⟨.hbm, 273, rfl⟩
abbrev main_call0_call0_v19 : Ref sig .tc := ⟨.hbm, 274, rfl⟩
abbrev main_call0_call0_c_2 : Ref sig .tc := ⟨.hbm, 275, rfl⟩
abbrev main_call0_call0_v20 : Ref sig .tc := ⟨.hbm, 276, rfl⟩
abbrev main_call0_call0_v21 : Ref sig .tc := ⟨.hbm, 277, rfl⟩
abbrev main_call0_call0_c_3 : Ref sig .tc := ⟨.hbm, 278, rfl⟩
abbrev main_call0_call0_v22 : Ref sig .tc := ⟨.hbm, 279, rfl⟩
abbrev main_call0_call0_v23 : Ref sig .tc := ⟨.hbm, 280, rfl⟩
abbrev main_call0_call0_v24 : Ref sig .tc := ⟨.hbm, 281, rfl⟩
abbrev main_call0_call0_cst : Ref sig .tc := ⟨.hbm, 282, rfl⟩
abbrev main_call0_call0_v25 : Ref sig .tc := ⟨.hbm, 283, rfl⟩
abbrev main_call0_call0_v26 : Ref sig .tc := ⟨.hbm, 284, rfl⟩
abbrev main_call0_call0_v27 : Ref sig .tc := ⟨.hbm, 285, rfl⟩
abbrev main_call0_call0_v28 : Ref sig .tc := ⟨.hbm, 286, rfl⟩
abbrev main_call0_call0_v29 : Ref sig .tc := ⟨.hbm, 287, rfl⟩
abbrev main_call0_call0_v30 : Ref sig .tc := ⟨.hbm, 288, rfl⟩
abbrev main_call0_call0_v31 : Ref sig .tc := ⟨.hbm, 289, rfl⟩
abbrev main_call0_call0_v32 : Ref sig .tc := ⟨.hbm, 290, rfl⟩
abbrev main_call0_v0 : Ref sig .tc := ⟨.hbm, 291, rfl⟩
abbrev main_call0_v1 : Ref sig .tc := ⟨.hbm, 292, rfl⟩
abbrev main_call0_v2 : Ref sig .tc := ⟨.hbm, 293, rfl⟩
abbrev main_call0_v3 : Ref sig .tc := ⟨.hbm, 294, rfl⟩
abbrev main_v22 : Ref sig .tc := ⟨.hbm, 295, rfl⟩
abbrev main_v23 : Ref sig .tc := ⟨.hbm, 296, rfl⟩
abbrev main_call1_v0 : Ref sig .tc := ⟨.hbm, 297, rfl⟩
abbrev main_call1_cst : Ref sig .tc := ⟨.hbm, 298, rfl⟩
abbrev main_call1_c : Ref sig .tc := ⟨.hbm, 299, rfl⟩
abbrev main_call1_v1_0 : Ref sig .tc := ⟨.hbm, 300, rfl⟩
abbrev main_v24 : Ref sig .tc := ⟨.hbm, 301, rfl⟩
abbrev main_v25 : Ref sig .tc := ⟨.hbm, 302, rfl⟩
abbrev main_call2_c : Ref sig .tc := ⟨.hbm, 303, rfl⟩
abbrev main_call2_v0 : Ref sig .tc := ⟨.hbm, 304, rfl⟩
abbrev main_call2_v1 : Ref sig .tc := ⟨.hbm, 305, rfl⟩
abbrev main_call2_c_0 : Ref sig .tc := ⟨.hbm, 306, rfl⟩
abbrev main_call2_v2 : Ref sig .tc := ⟨.hbm, 307, rfl⟩
abbrev main_call2_v3 : Ref sig .tc := ⟨.hbm, 308, rfl⟩
abbrev main_call2_v4 : Ref sig .tc := ⟨.hbm, 309, rfl⟩
abbrev main_call2_v5 : Ref sig .tc := ⟨.hbm, 310, rfl⟩
abbrev main_call2_c_1 : Ref sig .tc := ⟨.hbm, 311, rfl⟩
abbrev main_call2_c_2 : Ref sig .tc := ⟨.hbm, 312, rfl⟩
abbrev main_call2_v6 : Ref sig .tc := ⟨.hbm, 313, rfl⟩
abbrev main_call2_v7 : Ref sig .tc := ⟨.hbm, 314, rfl⟩
abbrev main_call2_v8 : Ref sig .tc := ⟨.hbm, 315, rfl⟩
abbrev main_call2_v9 : Ref sig .tc := ⟨.hbm, 316, rfl⟩
abbrev main_call2_v10 : Ref sig .tc := ⟨.hbm, 317, rfl⟩
abbrev main_call2_v11 : Ref sig .tc := ⟨.hbm, 318, rfl⟩
abbrev main_call2_c_3 : Ref sig .tc := ⟨.hbm, 319, rfl⟩
abbrev main_call2_v12 : Ref sig .tc := ⟨.hbm, 320, rfl⟩
abbrev main_call2_v13 : Ref sig .tc := ⟨.hbm, 321, rfl⟩
abbrev main_call2_cst : Ref sig .tc := ⟨.hbm, 322, rfl⟩
abbrev main_call2_v14 : Ref sig .tc := ⟨.hbm, 323, rfl⟩
abbrev main_v26 : Ref sig .tc := ⟨.hbm, 324, rfl⟩
abbrev main_v27 : Ref sig .tc := ⟨.hbm, 325, rfl⟩

abbrev nD : Nat := 1
abbrev τ : Topo := Topo.v7x

variable {F : FTy → Type} [FloatOps F]
-- ==== Proof.Chain.lean ====
/- What one grid point of the kernel does to its six scratch arrays, as folds over the 128 chunks of a block.

   The kernel's text is unrolled: 128 chunks of 128 columns, once for the running maximum of the block and once for the
   two sums and the running winner. Here each unrolled loop is a recursion on the number of chunks already read, over the
   same vector operations, at any reading of the floats. `StepFirst.lean`, `StepMid.lean` and `StepLast.lean` show that the body computes these. -/
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

noncomputable section

namespace Cert.KernelIdeal.Gumbel

open Cert.KernelIdeal Cert.KernelIdeal.Gen
open Idealize.ShloMosaic Idealize.ShloMosaic.TcCoe

variable {F : FTy → Type} [FloatOps F]

/-- A scratch-shaped vector of floats, and of indices. -/
abbrev V32 (F : FTy → Type) : Type := Vec F S32x128 .f32
abbrev I32 (F : FTy → Type) : Type := Vec F S32x128 .i32

/-- The constants the body broadcasts. -/
def ninf : V32 F := broadcast S32x128 (Scalar.ofBits .f32 0xFF800000#32)
def zero : V32 F := broadcast S32x128 (Scalar.ofBits .f32 0x00000000#32)

/-- Chunk `k` lies inside the block. -/
theorem inb_chunk (k : ℕ) (h : k < 128) :
    ∀ a, (![0, 128 * k] : Fin 2 → ℕ) a + S32x128.size a ≤ S32x16384.size a := by
  intro a; fin_cases a
  · exact Nat.le_refl 32
  · show 128 * k + 128 ≤ 16384; omega

/-- Columns `128 k … 128 k + 127` of a block. -/
def chunk (x : Vec F S32x16384 .f32) (k : ℕ) : V32 F :=
  if h : k < 128 then
    fun i => x ((Rect.unit (s := S32x16384) ![0, 128 * k] S32x128.size (inb_chunk k h)).toLoadRect.idx i)
  else ninf

/-- The same chunk as the body loads it from a buffer. -/
def loaded (a : Memref sig .tc .vmem S32x16384 .f32) (f : a.view.ty.Contents (Elt F)) (k : ℕ) : V32 F :=
  if h : k < 128 then
    View.readAt (Elt F) a.view (Rect.unit (s := S32x16384) ![0, 128 * k] S32x128.size (inb_chunk k h)).toLoadRect f
  else ninf

theorem loaded_unread (a : Memref sig .tc .vmem S32x16384 .f32) (h : a.IsWhole) (x : Vec F S32x16384 .f32) :
    loaded a (h.unread x) = chunk x := by
  funext k; unfold loaded chunk
  split
  · funext i; exact h.readAt_unread x _ i
  · rfl

/-- A chunk of the noise as the body takes it up: loaded, then cast to the shape it has. -/
def taken (a : Memref sig .tc .vmem S32x16384 .f32) (f : a.view.ty.Contents (Elt F)) (k : ℕ) : V32 F :=
  shapeCast S32x128 (loaded a f k) shapeCasts_S32x128_S32x128

theorem taken_unread (a : Memref sig .tc .vmem S32x16384 .f32) (h : a.IsWhole) (x : Vec F S32x16384 .f32) :
    taken a (h.unread x) = chunk x := by
  rw [← loaded_unread a h x]
  funext k; exact shapeCast_self _ _

/-- The running maximum of the chunks. -/
def mbF (X : ℕ → V32 F) : ℕ → V32 F
  | 0 => ninf
  | n + 1 => maximumf (mbF X n) (X n)

/-- The running sum of chunks. -/
def sumF (E : ℕ → V32 F) : ℕ → V32 F
  | 0 => zero
  | n + 1 => addf (sumF E n) (E n)

/-- The running winner's score: a chunk's score takes over where it is greater. -/
def bF (b : V32 F) (X G : ℕ → V32 F) : ℕ → V32 F
  | 0 => b
  | n + 1 => select (cmpf .ogt (addf (X n) (G n)) (bF b X G n)) (addf (X n) (G n)) (bF b X G n)

/-- The running winner's column. -/
def biF (b : V32 F) (bi : I32 F) (C : ℕ → I32 F) (X G : ℕ → V32 F) : ℕ → I32 F
  | 0 => bi
  | n + 1 => select (cmpf .ogt (addf (X n) (G n)) (bF b X G n)) (C n) (biF b bi C X G n)

/-- The running winner's logit. -/
def bxF (b bx : V32 F) (X G : ℕ → V32 F) : ℕ → V32 F
  | 0 => bx
  | n + 1 => select (cmpf .ogt (addf (X n) (G n)) (bF b X G n)) (X n) (bxF b bx X G n)

/-- The columns of chunk `n` of block `j`, lane by lane. -/
def col (j : BitVec 32) (n : ℕ) : IVec S32x128 32 :=
  addi (iota .tc S32x128 32 [1] iota_S32x128_d1_w32)
    (broadcast S32x128 (Scalar.addi (Scalar.muli j 16384#32) (BitVec.ofNat 32 (128 * n))))

/-- Which of them are columns of the array. -/
def inside (j : BitVec 32) (n : ℕ) : IVec S32x128 1 := cmpi .slt (col j n) (broadcast S32x128 1000000#32)

/-- A chunk with the columns past the array at minus infinity. -/
def masked (j : BitVec 32) (X : ℕ → V32 F) (n : ℕ) : V32 F := select (inside j n) (X n) ninf

/-- A chunk's exponentials, and the products with its logits; in the last block zero past the array. -/
def eFull (mb : V32 F) (X : ℕ → V32 F) (n : ℕ) : V32 F := exp (subf (X n) mb)
def xeFull (mb : V32 F) (X : ℕ → V32 F) (n : ℕ) : V32 F := mulf (X n) (eFull mb X n)
def eMask (j : BitVec 32) (mb : V32 F) (X : ℕ → V32 F) (n : ℕ) : V32 F := select (inside j n) (exp (subf (X n) mb)) zero
def xeMask (j : BitVec 32) (mb : V32 F) (X : ℕ → V32 F) (n : ℕ) : V32 F :=
  select (inside j n) (mulf (X n) (eMask j mb X n)) zero

/-- The scratch arrays: per row and lane the running maximum, the two running sums, and the running winner's score,
    column and logit. -/
@[ext] structure St (F : FTy → Type) where
  m : V32 F
  s : V32 F
  t : V32 F
  b : V32 F
  bi : I32 F
  bx : V32 F

/-- What the first point starts from. -/
def St.init : St F := ⟨ninf, zero, zero, ninf, broadcast S32x128 0#32, zero⟩

/-- The factor that brings a sum taken against the maximum `a` to the maximum `m`. -/
def scale (a m : V32 F) : V32 F := select (cmpf .oeq a ninf) zero (exp (subf a m))

/-- A block's maximum `mb` and sums `sb`, `tb` merged into the running ones. -/
def merge (old sb mb m : V32 F) (c : V32 F) : V32 F := addf (mulf old c) (mulf sb (scale mb m))

/-- A point before the last, on the block's chunks. -/
def St.full (j : BitVec 32) (X G : ℕ → V32 F) (st : St F) : St F where
  m := maximumf st.m (mbF X 128)
  s := merge st.s (sumF (eFull (mbF X 128) X) 128) (mbF X 128) (maximumf st.m (mbF X 128)) (scale st.m (maximumf st.m (mbF X 128)))
  t := merge st.t (sumF (xeFull (mbF X 128) X) 128) (mbF X 128) (maximumf st.m (mbF X 128)) (scale st.m (maximumf st.m (mbF X 128)))
  b := bF st.b X G 128
  bi := biF st.b st.bi (col j) X G 128
  bx := bxF st.b st.bx X G 128

/-- The last point, on chunks already masked. -/
def St.tail (j : BitVec 32) (X G : ℕ → V32 F) (st : St F) : St F where
  m := maximumf st.m (mbF X 128)
  s := merge st.s (sumF (eMask j (mbF X 128) X) 128) (mbF X 128) (maximumf st.m (mbF X 128)) (scale st.m (maximumf st.m (mbF X 128)))
  t := merge st.t (sumF (xeMask j (mbF X 128) X) 128) (mbF X 128) (maximumf st.m (mbF X 128)) (scale st.m (maximumf st.m (mbF X 128)))
  b := bF st.b X G 128
  bi := biF st.b st.bi (col j) X G 128
  bx := bxF st.b st.bx X G 128

/-- The block number as the body computes with it. -/
def pt (i : grid0.Coords) : BitVec 32 := BitVec.ofNat 32 (i 0).val

/-- The scratch after a point before the last on the blocks `x` of the logits and `g` of the noise, and after the last. -/
def stepFull (i : grid0.Coords) (x g : Vec F S32x16384 .f32) (st : St F) : St F := st.full (pt i) (chunk x) (chunk g)
def stepTail (i : grid0.Coords) (x g : Vec F S32x16384 .f32) (st : St F) : St F :=
  st.tail (pt i) (masked (pt i) (chunk x)) (chunk g)

/-! ## The last point's results -/

/-- A row's maximum, sum and minimum, one column wide. -/
def rowMax (v : V32 F) : FVec F S32x1 .f32 :=
  shapeCast S32x1 (multiReduction .maximumf [1] S32 v 0xFF800000#32 reduces_S32x128_S32 (.inl rfl) rfl) shapeCasts_S32_S32x1
def rowSum (v : V32 F) : FVec F S32x1 .f32 :=
  shapeCast S32x1 (multiReduction .add [1] S32 v 0x00000000#32 reduces_S32x128_S32 (.inl rfl) rfl) shapeCasts_S32_S32x1
def rowMin (v : IVec S32x128 32) : IVec S32x1 32 :=
  shapeCast S32x1 (multiReductionI .minsi [1] S32 v 2147483647#32 reduces_S32x128_S32 rfl) shapeCasts_S32_S32x1

/-- A lane's weight against its row's maximum. -/
def weight (st : St F) : V32 F := scale st.m (broadcastTo S32x128 (rowMax st.m) broadcasts_S32x1_S32x128)
/-- The row's sums over all lanes. -/
def total (st : St F) : FVec F S32x1 .f32 := rowSum (mulf st.s (weight st))
def totalX (st : St F) : FVec F S32x1 .f32 := rowSum (mulf st.t (weight st))
/-- The row's log normaliser. -/
def logz (st : St F) : FVec F S32x1 .f32 := addf (rowMax st.m) (log (total st))
/-- The entropy. -/
def entOut (st : St F) : FVec F S32x1 .f32 := subf (logz st) (divf (totalX st) (total st))
/-- The lanes that hold the row's best score. -/
def best (st : St F) : IVec S32x128 1 := cmpf .oeq st.b (broadcastTo S32x128 (rowMax st.b) broadcasts_S32x1_S32x128)
/-- The sampled column: the least among those lanes'. -/
def sampOut (st : St F) : IVec S32x1 32 := rowMin (select (best st) st.bi (broadcast S32x128 2147483647#32))
/-- The lane it came from. -/
def hit (st : St F) : IVec S32x128 1 := andi (best st) (cmpi .eq st.bi (broadcastTo S32x128 (sampOut st) broadcasts_S32x1_S32x128))
/-- The sampled column's log probability. -/
def logpOut (st : St F) : FVec F S32x1 .f32 := subf (rowSum (select (hit st) st.bx zero)) (logz st)

end Cert.KernelIdeal.Gumbel

end
-- ==== Proof.Setup.lean ====
/- What the runs of the body are stated over: its four branch conditions at a grid point, the buffers it is handed, and
   the scratch arrays as one assertion. -/
module

public import proofs.«01_k».proof.Proof.Chain
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.KernelIdeal.Gumbel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- First point: the scratch is reset. -/
abbrev isFirst (i : grid0.Coords) : Prop :=
  (Scalar.cmpi .ne (Scalar.extui (Scalar.cmpi .eq (BitVec.ofNat 32 (i 0).val) 0#32)) 0#32) = 1#1
/-- Before the last point: no mask. -/
abbrev isBefore (i : grid0.Coords) : Prop :=
  (Scalar.cmpi .ne (Scalar.extui (Scalar.cmpi .slt (BitVec.ofNat 32 (i 0).val) 61#32)) 0#32) = 1#1
/-- Last point: with the mask. -/
abbrev isLast (i : grid0.Coords) : Prop :=
  (Scalar.cmpi .ne (Scalar.extui (Scalar.cmpi .eq (BitVec.ofNat 32 (i 0).val) 61#32)) 0#32) = 1#1
/-- Last point: the results are stored. -/
abbrev isEnd (i : grid0.Coords) : Prop := k0_cond4 i = 1#1

theorem coord_0 (t : Fin cfg0.N) : (grid0.coords t 0).val = t.val := by
  have ht : t.val < 62 := Nat.lt_of_lt_of_eq t.isLt N_0
  have e : (grid0.coords t 0).val = t.val / 1 % 62 := Pipeline.Grid.coords_val t 0 (by decide) rfl
  rw [e]; omega

theorem isFirst_iff (t : Fin cfg0.N) : isFirst (grid0.coords t) ↔ t.val = 0 := by
  have ht : t.val < 62 := Nat.lt_of_lt_of_eq t.isLt N_0
  simp only [isFirst, coord_0]
  word_cmp

theorem isLast_iff (t : Fin cfg0.N) : isLast (grid0.coords t) ↔ t.val = 61 := by
  have ht : t.val < 62 := Nat.lt_of_lt_of_eq t.isLt N_0
  simp only [isLast, coord_0]
  word_cmp

theorem isEnd_iff (t : Fin cfg0.N) : isEnd (grid0.coords t) ↔ t.val = 61 := by
  have ht : t.val < 62 := Nat.lt_of_lt_of_eq t.isLt N_0
  simp only [isEnd, k0_cond4, coord_0]
  word_cmp

theorem isBefore_iff : ∀ t : Fin cfg0.N, isBefore (grid0.coords t) ↔ t.val < 61 :=
  (by decide +kernel : ∀ t : Fin grid0.N, isBefore (grid0.coords t) ↔ t.val < 61)

/-! ## The buffers -/

/-- The windows' staging buffers at a point, and that each is a whole buffer. -/
abbrev stg0 (t : Fin cfg0.N) : Memref sig .tc .vmem S32x16384 .f32 := win0_0.stage (cfg0.slots t 0)
abbrev stg1 (t : Fin cfg0.N) : Memref sig .tc .vmem S32x16384 .f32 := win0_1.stage (cfg0.slots t 1)
abbrev stg2 (t : Fin cfg0.N) : Memref sig .tc .vmem S32x1 .i32 := win0_2.stage (cfg0.slots t 2)
abbrev stg3 (t : Fin cfg0.N) : Memref sig .tc .vmem S32x1 .f32 := win0_3.stage (cfg0.slots t 3)
abbrev stg4 (t : Fin cfg0.N) : Memref sig .tc .vmem S32x1 .f32 := win0_4.stage (cfg0.slots t 4)
abbrev whole0 (t : Fin cfg0.N) : (stg0 t).IsWhole := hstage0_0 ((cfg0.slots t 0).cast nbuf0_0)
abbrev whole1 (t : Fin cfg0.N) : (stg1 t).IsWhole := hstage0_1 ((cfg0.slots t 1).cast nbuf0_1)
abbrev whole2 (t : Fin cfg0.N) : (stg2 t).IsWhole := hstage0_2 ((cfg0.slots t 2).cast nbuf0_2)
abbrev whole3 (t : Fin cfg0.N) : (stg3 t).IsWhole := hstage0_3 ((cfg0.slots t 3).cast nbuf0_3)
abbrev whole4 (t : Fin cfg0.N) : (stg4 t).IsWhole := hstage0_4 ((cfg0.slots t 4).cast nbuf0_4)

/-- The scratch buffers. -/
abbrev scr0 : Memref sig .tc .vmem S32x128 .f32 := Memref.whole cc0_scratch0
abbrev scr1 : Memref sig .tc .vmem S32x128 .f32 := Memref.whole cc0_scratch1
abbrev scr2 : Memref sig .tc .vmem S32x128 .f32 := Memref.whole cc0_scratch2
abbrev scr3 : Memref sig .tc .vmem S32x128 .f32 := Memref.whole cc0_scratch3
abbrev scr4 : Memref sig .tc .vmem S32x128 .i32 := Memref.whole cc0_scratch4
abbrev scr5 : Memref sig .tc .vmem S32x128 .f32 := Memref.whole cc0_scratch5

/-- The scratch buffers hold the state `st`. -/
def holds (c : Dev nD) (a0 a1 a2 a3 : Memref sig .tc .vmem S32x128 .f32) (a4 : Memref sig .tc .vmem S32x128 .i32)
    (a5 : Memref sig .tc .vmem S32x128 .f32) (st : St F) : sProp 𝕄 :=
  iprop(owns (c : Thread nD τ) a0 fullShare st.m ∗ owns (c : Thread nD τ) a1 fullShare st.s
    ∗ owns (c : Thread nD τ) a2 fullShare st.t ∗ owns (c : Thread nD τ) a3 fullShare st.b
    ∗ owns (c : Thread nD τ) a4 fullShare st.bi ∗ owns (c : Thread nD τ) a5 fullShare st.bx)

/-- The region's own resources between points, the scratch at some state. -/
theorem scratch_any (c : Dev nD) :
    (Pipeline.ΦA spec0 c : sProp 𝕄)
      = iprop(iprop((∃ d, owns (c : Thread nD τ) scr0 fullShare d) ∗ (∃ d, owns (c : Thread nD τ) scr1 fullShare d)
        ∗ (∃ d, owns (c : Thread nD τ) scr2 fullShare d) ∗ (∃ d, owns (c : Thread nD τ) scr3 fullShare d)
        ∗ (∃ d, owns (c : Thread nD τ) scr4 fullShare d) ∗ (∃ d, owns (c : Thread nD τ) scr5 fullShare d))
        ∗ (∃ r, prngReg c r)) := by
  unfold Pipeline.ΦA; rw [scopedRest0_eq]; simp only [scr0, scr1, scr2, scr3, scr4, scr5, owns_whole]; try rfl

end Cert.KernelIdeal.Gumbel

end
-- ==== Proof.StepFirst.lean ====
/- The body at the first point: it resets the scratch, then does a point before the last. -/
module

public import proofs.«01_k».proof.Proof.Setup

@[expose] public section

set_option maxRecDepth 16384

noncomputable section

namespace Cert.KernelIdeal.Gumbel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a scratch buffer, as the body addresses it. -/
abbrev allR : Rect S32x128 := Rect.unit ![0, 0] ![32, 128] inb_S32x128_S32x128_0_0

set_option maxHeartbeats 2000000 in
/-- The first point, whatever the scratch held: the inputs as they were, the outputs at anything, the scratch at one step from
    its reset. -/
theorem stepFirst_run (c : Dev nD) (i : grid0.Coords)
    (arg1 : Memref sig .tc .vmem S32x16384 .f32) (harg1 : arg1.IsWhole)
    (arg2 : Memref sig .tc .vmem S32x16384 .f32) (harg2 : arg2.IsWhole)
    (arg3 : Memref sig .tc .vmem S32x1 .i32) (harg3 : arg3.IsWhole) (arg4 : Memref sig .tc .vmem S32x1 .f32) (harg4 : arg4.IsWhole)
    (arg5 : Memref sig .tc .vmem S32x1 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x128 .f32) (harg8 : arg8.IsWhole)
    (arg9 : Memref sig .tc .vmem S32x128 .f32) (harg9 : arg9.IsWhole) (arg10 : Memref sig .tc .vmem S32x128 .i32) (harg10 : arg10.IsWhole)
    (arg11 : Memref sig .tc .vmem S32x128 .f32) (harg11 : arg11.IsWhole)
    (h0 : isFirst i) (h1 : isBefore i) (h2 : ¬isLast i) (h3 : ¬isEnd i)
    (x g : Vec F S32x16384 .f32) (E : Set ℕ) (K : PUnit → sProp 𝕄) :
    iprop(owns (c : Thread nD τ) arg1 fullShare x ∗ owns (c : Thread nD τ) arg2 fullShare g
        ∗ (∃ d, owns (c : Thread nD τ) arg3 fullShare d) ∗ (∃ d, owns (c : Thread nD τ) arg4 fullShare d) ∗ (∃ d, owns (c : Thread nD τ) arg5 fullShare d)
        ∗ (∃ st, holds c arg6 arg7 arg8 arg9 arg10 arg11 st)
        ∗ (iprop(owns (c : Thread nD τ) arg1 fullShare x ∗ owns (c : Thread nD τ) arg2 fullShare g
          ∗ (∃ d, owns (c : Thread nD τ) arg3 fullShare d) ∗ (∃ d, owns (c : Thread nD τ) arg4 fullShare d) ∗ (∃ d, owns (c : Thread nD τ) arg5 fullShare d)
          ∗ holds c arg6 arg7 arg8 arg9 arg10 arg11 (stepFull i x g St.init)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9
            arg10 harg10 arg11 harg11) K := by
  simp only [cc0__body_eq_skeleton]; unfold cc0__body_skel
  simp only [k0_part57_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton, k0_part37_eq_skeleton,
      k0_part38_eq_skeleton, k0_part39_eq_skeleton, k0_part40_eq_skeleton, k0_part41_eq_skeleton,
      k0_part42_eq_skeleton, k0_part43_eq_skeleton, k0_part44_eq_skeleton, k0_part45_eq_skeleton,
      k0_part46_eq_skeleton, k0_part47_eq_skeleton, k0_part48_eq_skeleton, k0_part49_eq_skeleton,
      k0_part50_eq_skeleton, k0_part51_eq_skeleton, k0_part52_eq_skeleton, k0_part53_eq_skeleton,
      k0_part54_eq_skeleton, k0_part55_eq_skeleton, k0_part56_eq_skeleton]
  unfold holds owns
  iintro ⟨⟨%f0, %hf0, H0⟩, ⟨%f1, %hf1, H1⟩, ⟨%d2, %f2, -, H2⟩, ⟨%d3, %f3, -, H3⟩, ⟨%d4, %f4, -, H4⟩,
    ⟨%st, ⟨%fs0, -, HS0⟩, ⟨%fs1, -, HS1⟩, ⟨%fs2, -, HS2⟩, ⟨%fs3, -, HS3⟩, ⟨%fs4, -, HS4⟩, ⟨%fs5, -, HS5⟩⟩, Hk⟩
  obtain rfl := harg1.eq_unread hf0; obtain rfl := harg2.eq_unread hf1
  sl_exec (disch := first | sl_exact h0 | sl_exact h1 | sl_exact h2 | sl_exact h3)
  sl_step
  iapply Hk
  have hX := loaded_unread arg1 harg1 x
  have hG := taken_unread arg2 harg2 g
  have hS : (⟨arg6.view.readCov [⟨allR, k0_pay1⟩] allR.toLoadRect, arg7.view.readCov [⟨allR, k0_pay2⟩] allR.toLoadRect, arg8.view.readCov [⟨allR, k0_pay3⟩] allR.toLoadRect, arg9.view.readCov [⟨allR, k0_pay4⟩] allR.toLoadRect, arg10.view.readCov [⟨allR, k0_pay5⟩] allR.toLoadRect, arg11.view.readCov [⟨allR, k0_pay6⟩] allR.toLoadRect⟩ : St F) = St.init :=
    St.ext ((View.readCov_full arg6.view _ _ _ _).trans (shapeCast_self _ _)) ((View.readCov_full arg7.view _ _ _ _).trans (shapeCast_self _ _)) ((View.readCov_full arg8.view _ _ _ _).trans (shapeCast_self _ _)) ((View.readCov_full arg9.view _ _ _ _).trans (shapeCast_self _ _)) ((View.readCov_full arg10.view _ _ _ _).trans (shapeCast_self _ _)) ((View.readCov_full arg11.view _ _ _ _).trans (shapeCast_self _ _))
  have hN : stepFull i x g St.init = St.full (pt i) (loaded arg1 (harg1.unread x)) (taken arg2 (harg2.unread g))
      ⟨arg6.view.readCov [⟨allR, k0_pay1⟩] allR.toLoadRect, arg7.view.readCov [⟨allR, k0_pay2⟩] allR.toLoadRect, arg8.view.readCov [⟨allR, k0_pay3⟩] allR.toLoadRect, arg9.view.readCov [⟨allR, k0_pay4⟩] allR.toLoadRect, arg10.view.readCov [⟨allR, k0_pay5⟩] allR.toLoadRect, arg11.view.readCov [⟨allR, k0_pay6⟩] allR.toLoadRect⟩ := by rw [hS, hX, hG]; rfl
  isplitl [H0]
  · iexists _; isplitr; · ipureintro; exact harg1.read_unread _
    iexact H0
  isplitl [H1]
  · iexists _; isplitr; · ipureintro; exact harg2.read_unread _
    iexact H1
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [HS0]
  · iexists _; isplitr; swap; · iexact HS0
    ipureintro
    refine (View.read_writes_full _ _ _ _ _).trans ((shapeCast_self _ _).trans ?_)
    rw [hN]; rfl
  isplitl [HS1]
  · iexists _; isplitr; swap; · iexact HS1
    ipureintro
    refine (View.read_writes_full _ _ _ _ _).trans ((shapeCast_self _ _).trans ?_)
    rw [hN]; rfl
  isplitl [HS2]
  · iexists _; isplitr; swap; · iexact HS2
    ipureintro
    refine (View.read_writes_full _ _ _ _ _).trans ((shapeCast_self _ _).trans ?_)
    rw [hN]; rfl
  isplitl [HS3]
  · iexists _; isplitr; swap; · iexact HS3
    ipureintro
    refine (View.read_writes_full _ _ _ _ _).trans ((shapeCast_self _ _).trans ?_)
    rw [hN]; rfl
  isplitl [HS4]
  · iexists _; isplitr; swap; · iexact HS4
    ipureintro
    refine (View.read_writes_full _ _ _ _ _).trans ((shapeCast_self _ _).trans ?_)
    rw [hN]; rfl
  · iexists _; isplitr; swap; · iexact HS5
    ipureintro
    refine (View.read_writes_full _ _ _ _ _).trans ((shapeCast_self _ _).trans ?_)
    rw [hN]; rfl

end Cert.KernelIdeal.Gumbel

end
-- ==== Proof.StepMid.lean ====
/- The body at a point between the first and the last. -/
module

public import proofs.«01_k».proof.Proof.StepFirst

@[expose] public section

set_option maxRecDepth 16384

noncomputable section

namespace Cert.KernelIdeal.Gumbel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A middle point: the scratch goes from `st` to one step on. -/
theorem stepMid_run (c : Dev nD) (i : grid0.Coords)
    (arg1 : Memref sig .tc .vmem S32x16384 .f32) (harg1 : arg1.IsWhole)
    (arg2 : Memref sig .tc .vmem S32x16384 .f32) (harg2 : arg2.IsWhole)
    (arg3 : Memref sig .tc .vmem S32x1 .i32) (harg3 : arg3.IsWhole) (arg4 : Memref sig .tc .vmem S32x1 .f32) (harg4 : arg4.IsWhole)
    (arg5 : Memref sig .tc .vmem S32x1 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x128 .f32) (harg8 : arg8.IsWhole)
    (arg9 : Memref sig .tc .vmem S32x128 .f32) (harg9 : arg9.IsWhole) (arg10 : Memref sig .tc .vmem S32x128 .i32) (harg10 : arg10.IsWhole)
    (arg11 : Memref sig .tc .vmem S32x128 .f32) (harg11 : arg11.IsWhole)
    (h0 : ¬isFirst i) (h1 : isBefore i) (h2 : ¬isLast i) (h3 : ¬isEnd i)
    (x g : Vec F S32x16384 .f32) (st : St F) (E : Set ℕ) (K : PUnit → sProp 𝕄) :
    iprop(owns (c : Thread nD τ) arg1 fullShare x ∗ owns (c : Thread nD τ) arg2 fullShare g
        ∗ (∃ d, owns (c : Thread nD τ) arg3 fullShare d) ∗ (∃ d, owns (c : Thread nD τ) arg4 fullShare d) ∗ (∃ d, owns (c : Thread nD τ) arg5 fullShare d)
        ∗ holds c arg6 arg7 arg8 arg9 arg10 arg11 st
        ∗ (iprop(owns (c : Thread nD τ) arg1 fullShare x ∗ owns (c : Thread nD τ) arg2 fullShare g
          ∗ (∃ d, owns (c : Thread nD τ) arg3 fullShare d) ∗ (∃ d, owns (c : Thread nD τ) arg4 fullShare d) ∗ (∃ d, owns (c : Thread nD τ) arg5 fullShare d)
          ∗ holds c arg6 arg7 arg8 arg9 arg10 arg11 (stepFull i x g st)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9
            arg10 harg10 arg11 harg11) K := by
  simp only [cc0__body_eq_skeleton]; unfold cc0__body_skel
  simp only [k0_part57_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton, k0_part37_eq_skeleton,
      k0_part38_eq_skeleton, k0_part39_eq_skeleton, k0_part40_eq_skeleton, k0_part41_eq_skeleton,
      k0_part42_eq_skeleton, k0_part43_eq_skeleton, k0_part44_eq_skeleton, k0_part45_eq_skeleton,
      k0_part46_eq_skeleton, k0_part47_eq_skeleton, k0_part48_eq_skeleton, k0_part49_eq_skeleton,
      k0_part50_eq_skeleton, k0_part51_eq_skeleton, k0_part52_eq_skeleton, k0_part53_eq_skeleton,
      k0_part54_eq_skeleton, k0_part55_eq_skeleton, k0_part56_eq_skeleton]
  unfold holds owns
  iintro ⟨⟨%f0, %hf0, H0⟩, ⟨%f1, %hf1, H1⟩, ⟨%d2, %f2, -, H2⟩, ⟨%d3, %f3, -, H3⟩, ⟨%d4, %f4, -, H4⟩,
    ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg1.eq_unread hf0; obtain rfl := harg2.eq_unread hf1
  sl_exec (disch := first | sl_exact h0 | sl_exact h1 | sl_exact h2 | sl_exact h3)
  sl_step
  iapply Hk
  have hX := loaded_unread arg1 harg1 x
  have hG := taken_unread arg2 harg2 g
  have hS : (⟨View.readAt (Elt F) arg6.view allR.toLoadRect fs0, View.readAt (Elt F) arg7.view allR.toLoadRect fs1, View.readAt (Elt F) arg8.view allR.toLoadRect fs2, View.readAt (Elt F) arg9.view allR.toLoadRect fs3, View.readAt (Elt F) arg10.view allR.toLoadRect fs4, View.readAt (Elt F) arg11.view allR.toLoadRect fs5⟩ : St F) = st :=
    St.ext ((View.readAt_full _ _ _).trans hfs0) ((View.readAt_full _ _ _).trans hfs1) ((View.readAt_full _ _ _).trans hfs2) ((View.readAt_full _ _ _).trans hfs3) ((View.readAt_full _ _ _).trans hfs4) ((View.readAt_full _ _ _).trans hfs5)
  have hN : stepFull i x g st = St.full (pt i) (loaded arg1 (harg1.unread x)) (taken arg2 (harg2.unread g))
      ⟨View.readAt (Elt F) arg6.view allR.toLoadRect fs0, View.readAt (Elt F) arg7.view allR.toLoadRect fs1, View.readAt (Elt F) arg8.view allR.toLoadRect fs2, View.readAt (Elt F) arg9.view allR.toLoadRect fs3, View.readAt (Elt F) arg10.view allR.toLoadRect fs4, View.readAt (Elt F) arg11.view allR.toLoadRect fs5⟩ := by rw [hS, hX, hG]; rfl
  isplitl [H0]
  · iexists _; isplitr; · ipureintro; exact harg1.read_unread _
    iexact H0
  isplitl [H1]
  · iexists _; isplitr; · ipureintro; exact harg2.read_unread _
    iexact H1
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [HS0]
  · iexists _; isplitr; swap; · iexact HS0
    ipureintro
    refine (View.read_writes_full _ _ _ _ _).trans ((shapeCast_self _ _).trans ?_)
    rw [hN]; rfl
  isplitl [HS1]
  · iexists _; isplitr; swap; · iexact HS1
    ipureintro
    refine (View.read_writes_full _ _ _ _ _).trans ((shapeCast_self _ _).trans ?_)
    rw [hN]; rfl
  isplitl [HS2]
  · iexists _; isplitr; swap; · iexact HS2
    ipureintro
    refine (View.read_writes_full _ _ _ _ _).trans ((shapeCast_self _ _).trans ?_)
    rw [hN]; rfl
  isplitl [HS3]
  · iexists _; isplitr; swap; · iexact HS3
    ipureintro
    refine (View.read_writes_full _ _ _ _ _).trans ((shapeCast_self _ _).trans ?_)
    rw [hN]; rfl
  isplitl [HS4]
  · iexists _; isplitr; swap; · iexact HS4
    ipureintro
    refine (View.read_writes_full _ _ _ _ _).trans ((shapeCast_self _ _).trans ?_)
    rw [hN]; rfl
  · iexists _; isplitr; swap; · iexact HS5
    ipureintro
    refine (View.read_writes_full _ _ _ _ _).trans ((shapeCast_self _ _).trans ?_)
    rw [hN]; rfl

end Cert.KernelIdeal.Gumbel

end
-- ==== Proof.StepLast.lean ====
/- The body at the last point: the masked step, and the three results from the scratch it leaves. -/
module

public import proofs.«01_k».proof.Proof.StepMid

@[expose] public section

set_option maxRecDepth 16384

noncomputable section

namespace Cert.KernelIdeal.Gumbel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The last point: the scratch goes from `st` to the masked step, and the outputs hold the results read off it. -/
theorem stepLast_run (c : Dev nD) (i : grid0.Coords)
    (arg1 : Memref sig .tc .vmem S32x16384 .f32) (harg1 : arg1.IsWhole)
    (arg2 : Memref sig .tc .vmem S32x16384 .f32) (harg2 : arg2.IsWhole)
    (arg3 : Memref sig .tc .vmem S32x1 .i32) (harg3 : arg3.IsWhole) (arg4 : Memref sig .tc .vmem S32x1 .f32) (harg4 : arg4.IsWhole)
    (arg5 : Memref sig .tc .vmem S32x1 .f32) (harg5 : arg5.IsWhole) (arg6 : Memref sig .tc .vmem S32x128 .f32) (harg6 : arg6.IsWhole)
    (arg7 : Memref sig .tc .vmem S32x128 .f32) (harg7 : arg7.IsWhole) (arg8 : Memref sig .tc .vmem S32x128 .f32) (harg8 : arg8.IsWhole)
    (arg9 : Memref sig .tc .vmem S32x128 .f32) (harg9 : arg9.IsWhole) (arg10 : Memref sig .tc .vmem S32x128 .i32) (harg10 : arg10.IsWhole)
    (arg11 : Memref sig .tc .vmem S32x128 .f32) (harg11 : arg11.IsWhole)
    (h0 : ¬isFirst i) (h1 : ¬isBefore i) (h2 : isLast i) (h3 : isEnd i)
    (x g : Vec F S32x16384 .f32) (st : St F) (E : Set ℕ) (K : PUnit → sProp 𝕄) :
    iprop(owns (c : Thread nD τ) arg1 fullShare x ∗ owns (c : Thread nD τ) arg2 fullShare g
        ∗ (∃ d, owns (c : Thread nD τ) arg3 fullShare d) ∗ (∃ d, owns (c : Thread nD τ) arg4 fullShare d) ∗ (∃ d, owns (c : Thread nD τ) arg5 fullShare d)
        ∗ holds c arg6 arg7 arg8 arg9 arg10 arg11 st
        ∗ (iprop(owns (c : Thread nD τ) arg1 fullShare x ∗ owns (c : Thread nD τ) arg2 fullShare g
          ∗ owns (c : Thread nD τ) arg3 fullShare (sampOut (stepTail i x g st)) ∗ owns (c : Thread nD τ) arg4 fullShare (logpOut (stepTail i x g st)) ∗ owns (c : Thread nD τ) arg5 fullShare (entOut (stepTail i x g st))
          ∗ holds c arg6 arg7 arg8 arg9 arg10 arg11 (stepTail i x g st)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9
            arg10 harg10 arg11 harg11) K := by
  simp only [cc0__body_eq_skeleton]; unfold cc0__body_skel
  simp only [k0_part161_eq_skeleton, k0_part58_eq_skeleton, k0_part59_eq_skeleton, k0_part60_eq_skeleton,
      k0_part61_eq_skeleton, k0_part62_eq_skeleton, k0_part63_eq_skeleton, k0_part64_eq_skeleton,
      k0_part65_eq_skeleton, k0_part66_eq_skeleton, k0_part67_eq_skeleton, k0_part68_eq_skeleton,
      k0_part69_eq_skeleton, k0_part70_eq_skeleton, k0_part71_eq_skeleton, k0_part72_eq_skeleton,
      k0_part73_eq_skeleton, k0_part74_eq_skeleton, k0_part75_eq_skeleton, k0_part76_eq_skeleton,
      k0_part77_eq_skeleton, k0_part78_eq_skeleton, k0_part79_eq_skeleton, k0_part80_eq_skeleton,
      k0_part81_eq_skeleton, k0_part82_eq_skeleton, k0_part83_eq_skeleton, k0_part84_eq_skeleton,
      k0_part85_eq_skeleton, k0_part86_eq_skeleton, k0_part87_eq_skeleton, k0_part88_eq_skeleton,
      k0_part89_eq_skeleton, k0_part90_eq_skeleton, k0_part91_eq_skeleton, k0_part92_eq_skeleton,
      k0_part93_eq_skeleton, k0_part94_eq_skeleton, k0_part95_eq_skeleton, k0_part96_eq_skeleton,
      k0_part97_eq_skeleton, k0_part98_eq_skeleton, k0_part99_eq_skeleton, k0_part100_eq_skeleton,
      k0_part101_eq_skeleton, k0_part102_eq_skeleton, k0_part103_eq_skeleton, k0_part104_eq_skeleton,
      k0_part105_eq_skeleton, k0_part106_eq_skeleton, k0_part107_eq_skeleton, k0_part108_eq_skeleton,
      k0_part109_eq_skeleton, k0_part110_eq_skeleton, k0_part111_eq_skeleton, k0_part112_eq_skeleton,
      k0_part113_eq_skeleton, k0_part114_eq_skeleton, k0_part115_eq_skeleton, k0_part116_eq_skeleton,
      k0_part117_eq_skeleton, k0_part162_eq_skeleton, k0_part118_eq_skeleton, k0_part119_eq_skeleton,
      k0_part120_eq_skeleton, k0_part121_eq_skeleton, k0_part122_eq_skeleton, k0_part123_eq_skeleton,
      k0_part124_eq_skeleton, k0_part125_eq_skeleton, k0_part126_eq_skeleton, k0_part127_eq_skeleton,
      k0_part128_eq_skeleton, k0_part129_eq_skeleton, k0_part130_eq_skeleton, k0_part131_eq_skeleton,
      k0_part132_eq_skeleton, k0_part133_eq_skeleton, k0_part134_eq_skeleton, k0_part135_eq_skeleton,
      k0_part136_eq_skeleton, k0_part137_eq_skeleton, k0_part138_eq_skeleton, k0_part139_eq_skeleton,
      k0_part140_eq_skeleton, k0_part141_eq_skeleton, k0_part142_eq_skeleton, k0_part143_eq_skeleton,
      k0_part144_eq_skeleton, k0_part145_eq_skeleton, k0_part146_eq_skeleton, k0_part147_eq_skeleton,
      k0_part148_eq_skeleton, k0_part149_eq_skeleton, k0_part150_eq_skeleton, k0_part151_eq_skeleton,
      k0_part152_eq_skeleton, k0_part153_eq_skeleton, k0_part154_eq_skeleton, k0_part155_eq_skeleton,
      k0_part156_eq_skeleton, k0_part157_eq_skeleton, k0_part158_eq_skeleton, k0_part159_eq_skeleton,
      k0_part160_eq_skeleton, k0_part163_eq_skeleton]
  unfold holds owns
  iintro ⟨⟨%f0, %hf0, H0⟩, ⟨%f1, %hf1, H1⟩, ⟨%d2, %f2, -, H2⟩, ⟨%d3, %f3, -, H3⟩, ⟨%d4, %f4, -, H4⟩,
    ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  obtain rfl := harg1.eq_unread hf0; obtain rfl := harg2.eq_unread hf1
  sl_exec (disch := first | sl_exact h0 | sl_exact h1 | sl_exact h2 | sl_exact h3)
  sl_step
  iapply Hk
  have hX := loaded_unread arg1 harg1 x
  have hG := taken_unread arg2 harg2 g
  have hS : (⟨View.readAt (Elt F) arg6.view allR.toLoadRect fs0, View.readAt (Elt F) arg7.view allR.toLoadRect fs1, View.readAt (Elt F) arg8.view allR.toLoadRect fs2, View.readAt (Elt F) arg9.view allR.toLoadRect fs3, View.readAt (Elt F) arg10.view allR.toLoadRect fs4, View.readAt (Elt F) arg11.view allR.toLoadRect fs5⟩ : St F) = st :=
    St.ext ((View.readAt_full _ _ _).trans hfs0) ((View.readAt_full _ _ _).trans hfs1) ((View.readAt_full _ _ _).trans hfs2) ((View.readAt_full _ _ _).trans hfs3) ((View.readAt_full _ _ _).trans hfs4) ((View.readAt_full _ _ _).trans hfs5)
  have hN : stepTail i x g st = St.tail (pt i) (masked (pt i) (loaded arg1 (harg1.unread x))) (taken arg2 (harg2.unread g))
      ⟨View.readAt (Elt F) arg6.view allR.toLoadRect fs0, View.readAt (Elt F) arg7.view allR.toLoadRect fs1, View.readAt (Elt F) arg8.view allR.toLoadRect fs2, View.readAt (Elt F) arg9.view allR.toLoadRect fs3, View.readAt (Elt F) arg10.view allR.toLoadRect fs4, View.readAt (Elt F) arg11.view allR.toLoadRect fs5⟩ := by rw [hS, hX, hG]; rfl
  -- what the results are computed from: the scratch just stored, loaded again
  have q0 : stepLast_run.sl.v13 c i arg1 harg1 arg6 x fs0 = (stepTail i x g st).m :=
    (View.readCov_full _ _ _ _ _).trans ((shapeCast_self _ _).trans (by rw [hN]; rfl))
  have q1 : stepLast_run.sl.v23 c i arg1 harg1 arg6 arg7 x fs0 fs1 = (stepTail i x g st).s :=
    (View.readCov_full _ _ _ _ _).trans ((shapeCast_self _ _).trans (by rw [hN]; rfl))
  have q2 : stepLast_run.sl.v27 c i arg1 harg1 arg6 arg8 x fs0 fs2 = (stepTail i x g st).t :=
    (View.readCov_full _ _ _ _ _).trans ((shapeCast_self _ _).trans (by rw [hN]; rfl))
  have q3 : stepLast_run.sl.v36 c i arg1 harg1 arg2 harg2 arg9 x g fs3 = (stepTail i x g st).b :=
    (View.readCov_full _ _ _ _ _).trans ((shapeCast_self _ _).trans (by rw [hN]; rfl))
  have q4 : stepLast_run.sl.v41 c i arg1 harg1 arg2 harg2 arg9 arg10 x g fs3 fs4 = (stepTail i x g st).bi :=
    (View.readCov_full _ _ _ _ _).trans ((shapeCast_self _ _).trans (by rw [hN]; rfl))
  have q5 : stepLast_run.sl.v50 c i arg1 harg1 arg2 harg2 arg9 arg11 x g fs3 fs5 = (stepTail i x g st).bx :=
    (View.readCov_full _ _ _ _ _).trans ((shapeCast_self _ _).trans (by rw [hN]; rfl))
  have q : (⟨stepLast_run.sl.v13 c i arg1 harg1 arg6 x fs0, stepLast_run.sl.v23 c i arg1 harg1 arg6 arg7 x fs0 fs1, stepLast_run.sl.v27 c i arg1 harg1 arg6 arg8 x fs0 fs2, stepLast_run.sl.v36 c i arg1 harg1 arg2 harg2 arg9 x g fs3, stepLast_run.sl.v41 c i arg1 harg1 arg2 harg2 arg9 arg10 x g fs3 fs4, stepLast_run.sl.v50 c i arg1 harg1 arg2 harg2 arg9 arg11 x g fs3 fs5⟩ : St F) = stepTail i x g st := St.ext q0 q1 q2 q3 q4 q5
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    rw [← q]; rfl
  isplitl [H3]
  · iexists _; isplitr; swap; · iexact H3
    ipureintro
    refine (View.read_writes_full _ _ _ _ _).trans ?_
    rw [← q]; rfl
  isplitl [H4]
  · iexists _; isplitr; swap; · iexact H4
    ipureintro
    refine (View.read_writes_full _ _ _ _ _).trans ?_
    rw [← q]; rfl
  isplitl [HS0]
  · iexists _; isplitr; swap; · iexact HS0
    ipureintro
    refine (View.read_writes_full _ _ _ _ _).trans ((shapeCast_self _ _).trans ?_)
    rw [hN]; rfl
  isplitl [HS1]
  · iexists _; isplitr; swap; · iexact HS1
    ipureintro
    refine (View.read_writes_full _ _ _ _ _).trans ((shapeCast_self _ _).trans ?_)
    rw [hN]; rfl
  isplitl [HS2]
  · iexists _; isplitr; swap; · iexact HS2
    ipureintro
    refine (View.read_writes_full _ _ _ _ _).trans ((shapeCast_self _ _).trans ?_)
    rw [hN]; rfl
  isplitl [HS3]
  · iexists _; isplitr; swap; · iexact HS3
    ipureintro
    refine (View.read_writes_full _ _ _ _ _).trans ((shapeCast_self _ _).trans ?_)
    rw [hN]; rfl
  isplitl [HS4]
  · iexists _; isplitr; swap; · iexact HS4
    ipureintro
    refine (View.read_writes_full _ _ _ _ _).trans ((shapeCast_self _ _).trans ?_)
    rw [hN]; rfl
  · iexists _; isplitr; swap; · iexact HS5
    ipureintro
    refine (View.read_writes_full _ _ _ _ _).trans ((shapeCast_self _ _).trans ?_)
    rw [hN]; rfl

end Cert.KernelIdeal.Gumbel

end
-- ==== Proof.Frame.lean ====
/- The frame of the kernel at any reading of the floats: it terminates, leaves its arguments unchanged and every counter
   at zero. Nothing is stated here of the results or of the scratch. -/
module

public import proofs.«01_k».proof.Proof.StepLast

@[expose] public section

noncomputable section

namespace Cert.KernelIdeal.Gumbel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the reshapes after the region write. -/
def tails : Finset (Ref sig .tc) := {main_v9, main_v10, main_v11}

theorem tails_writes : ∀ ops ∈ ([hostOps1] : List (List (HloOp τ sig (Elt F)))), ∀ op ∈ ops,
    ∀ b : Ref sig .tc, Proc.devRef .tc b ∈ op.writes → b ∈ tails := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.reshape_writes, Finset.mem_singleton] at hb
    cases Proc.devRef_injective _ hb; decide

/-- An input's block filled out past the array with zeros. -/
def in0 (c : Dev nD) (t : Fin cfg0.N) : Vec F S32x16384 .f32 :=
  win0_0.fill (grid0.coords t) (fun _ => Scalar.ofBits .f32 0#32) (iblk m c 0 t)
def in1 (c : Dev nD) (t : Fin cfg0.N) : Vec F S32x16384 .f32 :=
  win0_1.fill (grid0.coords t) (fun _ => Scalar.ofBits .f32 0#32) (iblk m c 1 t)

/-- The results are forgotten. -/
def forgets : Fin 5 → Bool := fun w => w.val == 2 || w.val == 3 || w.val == 4

/-- The data of the frame's run. -/
def fdat (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem fdat_before0 (c : Dev nD) (t : Fin cfg0.N) (d) :
    (fdat m 0 c).before 0 t d = win0_0.fill (grid0.coords t) d (iblk m c 0 t) := by
  unfold Dat.before; rw [if_pos (fetch0_0 t)]; rfl
theorem fdat_before1 (c : Dev nD) (t : Fin cfg0.N) (d) :
    (fdat m 0 c).before 1 t d = win0_1.fill (grid0.coords t) d (iblk m c 1 t) := by
  unfold Dat.before; rw [if_pos (fetch0_1 t)]; rfl

theorem row (t : Fin cfg0.N) : defs₀ (F := F) .tc cfg0.body (cfg0.bodyArgs t (cfg0.slots t)) = bodyAt0 t := by
  unfold defs₀; rw [Defs.onTc_tc]

/-- The scratch at some state, one array at a time and together. -/
theorem scratch_join (c : Dev nD) :
    (iprop((∃ d, owns (c : Thread nD τ) scr0 fullShare d) ∗ (∃ d, owns (c : Thread nD τ) scr1 fullShare d)
        ∗ (∃ d, owns (c : Thread nD τ) scr2 fullShare d) ∗ (∃ d, owns (c : Thread nD τ) scr3 fullShare d)
        ∗ (∃ d, owns (c : Thread nD τ) scr4 fullShare d) ∗ (∃ d, owns (c : Thread nD τ) scr5 fullShare d)) : sProp 𝕄)
      ⊢ iprop(∃ st : St F, holds c scr0 scr1 scr2 scr3 scr4 scr5 st) := by
  iintro ⟨⟨%d0, H0⟩, ⟨%d1, H1⟩, ⟨%d2, H2⟩, ⟨%d3, H3⟩, ⟨%d4, H4⟩, ⟨%d5, H5⟩⟩
  iexists (⟨d0, d1, d2, d3, d4, d5⟩ : St F)
  unfold holds
  isplitl [H0]; · iexact H0
  isplitl [H1]; · iexact H1
  isplitl [H2]; · iexact H2
  isplitl [H3]; · iexact H3
  isplitl [H4]; · iexact H4
  iexact H5

theorem scratch_split (c : Dev nD) (st : St F) :
    (holds c scr0 scr1 scr2 scr3 scr4 scr5 st : sProp 𝕄)
      ⊢ iprop((∃ d, owns (c : Thread nD τ) scr0 fullShare d) ∗ (∃ d, owns (c : Thread nD τ) scr1 fullShare d)
        ∗ (∃ d, owns (c : Thread nD τ) scr2 fullShare d) ∗ (∃ d, owns (c : Thread nD τ) scr3 fullShare d)
        ∗ (∃ d, owns (c : Thread nD τ) scr4 fullShare d) ∗ (∃ d, owns (c : Thread nD τ) scr5 fullShare d)) := by
  unfold holds
  iintro ⟨H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- The body at any point: the inputs stay, everything else is some contents before and after. -/
theorem body_any (c : Dev nD) (t : Fin cfg0.N) (x g : Vec F S32x16384 .f32) (K : PUnit → sProp 𝕄) :
    iprop(owns (c : Thread nD τ) (stg0 t) fullShare x ∗ owns (c : Thread nD τ) (stg1 t) fullShare g
        ∗ (∃ d, owns (c : Thread nD τ) (stg2 t) fullShare d) ∗ (∃ d, owns (c : Thread nD τ) (stg3 t) fullShare d)
        ∗ (∃ d, owns (c : Thread nD τ) (stg4 t) fullShare d) ∗ (∃ st, holds c scr0 scr1 scr2 scr3 scr4 scr5 st)
        ∗ (iprop(owns (c : Thread nD τ) (stg0 t) fullShare x ∗ owns (c : Thread nD τ) (stg1 t) fullShare g
          ∗ (∃ d, owns (c : Thread nD τ) (stg2 t) fullShare d) ∗ (∃ d, owns (c : Thread nD τ) (stg3 t) fullShare d)
          ∗ (∃ d, owns (c : Thread nD τ) (stg4 t) fullShare d) ∗ (∃ st, holds c scr0 scr1 scr2 scr3 scr4 scr5 st)) -∗ K ⟨⟩))
      ⊢ wp frame (wpE (defs₀ (F := F)) Variants.none c none) Set.univ (bodyAt0 t) K := by
  have hN : t.val < 62 := lt_of_lt_of_eq t.isLt (show cfg0.N = 62 from N_0)
  unfold bodyAt0
  by_cases hz : t.val = 0
  · iintro ⟨H0, H1, H2, H3, H4, HS, Hk⟩
    iapply (stepFirst_run c (grid0.coords t) _ _ _ _ _ _ _ _ _ _ _ _ _ _ _ _ _ _ _ _ _ _ ((isFirst_iff t).mpr hz)
      ((isBefore_iff t).mpr (by omega)) (fun h => by have := (isLast_iff t).mp h; omega)
      (fun h => by have := (isEnd_iff t).mp h; omega) x g Set.univ K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    iapply Hk
    isplitl [H0]; · iexact H0
    isplitl [H1]; · iexact H1
    isplitl [H2]; · iexact H2
    isplitl [H3]; · iexact H3
    isplitl [H4]; · iexact H4
    iexists _; iexact HS
  by_cases hl : t.val = 61
  · iintro ⟨H0, H1, H2, H3, H4, ⟨%st, HS⟩, Hk⟩
    iapply (stepLast_run c (grid0.coords t) _ _ _ _ _ _ _ _ _ _ _ _ _ _ _ _ _ _ _ _ _ _
      (fun h => hz ((isFirst_iff t).mp h)) (fun h => by have := (isBefore_iff t).mp h; omega)
      ((isLast_iff t).mpr hl) ((isEnd_iff t).mpr hl) x g st Set.univ K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    iapply Hk
    isplitl [H0]; · iexact H0
    isplitl [H1]; · iexact H1
    isplitl [H2]; · iexists _; iexact H2
    isplitl [H3]; · iexists _; iexact H3
    isplitl [H4]; · iexists _; iexact H4
    iexists _; iexact HS
  · iintro ⟨H0, H1, H2, H3, H4, ⟨%st, HS⟩, Hk⟩
    iapply (stepMid_run c (grid0.coords t) _ _ _ _ _ _ _ _ _ _ _ _ _ _ _ _ _ _ _ _ _ _
      (fun h => hz ((isFirst_iff t).mp h)) ((isBefore_iff t).mpr (by omega))
      (fun h => hl ((isLast_iff t).mp h)) (fun h => hl ((isEnd_iff t).mp h)) x g st Set.univ K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    iapply Hk
    isplitl [H0]; · iexact H0
    isplitl [H1]; · iexact H1
    isplitl [H2]; · iexact H2
    isplitl [H3]; · iexact H3
    isplitl [H4]; · iexact H4
    iexists _; iexact HS

theorem cut0 (c : Dev nD) (t : Fin cfg0.N) : win0_0.cut (grid0.coords t) (in0 m c t) = iblk m c 0 t := win0_0.cut_fill _ _ _
theorem cut1 (c : Dev nD) (t : Fin cfg0.N) : win0_1.cut (grid0.coords t) (in1 m c t) = iblk m c 1 t := win0_1.cut_fill _ _ _

theorem frame_body (c : Dev nD) :
    Pipeline.BodyObligationLoose (fdat (F := F) m 0 c) (defs₀ (F := F)) Variants.none () Set.univ forgets := fun t => by
  rw [bigSep_W0, bigSep_W0, row]
  simp only [show forgets 0 = false from rfl, show forgets 1 = false from rfl, show forgets 2 = true from rfl,
    show forgets 3 = true from rfl, show forgets 4 = true from rfl]
  rw [show (fdat m 0 c).Φ t.succ = Pipeline.ΦA spec0 c from rfl, show (fdat m 0 c).Φ t.castSucc = Pipeline.ΦA spec0 c from rfl,
    show (fdat m 0 c).owesAt () t.succ = (fdat m 0 c).owesAt () t.castSucc from rfl, scratch_any]
  iintro ⟨⟨HS, Hg⟩, Ho, ⟨%d0, H0⟩, ⟨%d1, H1⟩, H2, H3, H4⟩
  rw [fdat_before0 m c t d0, fdat_before1 m c t d1]
  iapply (body_any (F := F) c t (win0_0.fill (grid0.coords t) d0 (iblk m c 0 t)) (win0_1.fill (grid0.coords t) d1 (iblk m c 1 t)) _)
  isplitl [H0]; · iexact H0
  isplitl [H1]; · iexact H1
  isplitl [H2]; · iexact H2
  isplitl [H3]; · iexact H3
  isplitl [H4]; · iexact H4
  isplitl [HS]; · iapply (scratch_join (F := F) c); iexact HS
  iintro ⟨H0, H1, H2, H3, H4, ⟨%st, HS⟩⟩
  isplitl [HS Hg]
  · isplitl [HS]
    · iapply (scratch_split (F := F) c st); iexact HS
    iexact Hg
  isplitl [Ho]; · iexact Ho
  isplitl [H0]
  · iexists d0
    change _ ⊢ owns (c : Thread nD τ) (stg0 t) fullShare (win0_0.fill (grid0.coords t) d0 (win0_0.cut (grid0.coords t) (in0 m c t)))
    rw [cut0]
  isplitl [H1]
  · iexists d1
    change _ ⊢ owns (c : Thread nD τ) (stg1 t) fullShare (win0_1.fill (grid0.coords t) d1 (win0_1.cut (grid0.coords t) (in1 m c t)))
    rw [cut1]
  isplitl [H2]; · iexact H2
  isplitl [H3]; · iexact H3
  iexact H4

theorem fdat_A (c : Dev nD) (w : Fin cfg0.W) : (fdat m 0 c).A w = V m c (Pipeline.arrRef spec0 w) := by dsimp only [fdat]

set_option backward.isDefEq.respectTransparency.types false in
set_option maxHeartbeats 800000 in
theorem frame_run : θ_run defs (onTc (τ := τ) (main (F := F))) (s₀ m ρ) (fun r =>
    (Pipeline.RDat.FramePostR (cfgs 0) (fun c => (fdat m 0 c).toRForget forgets) tails (V m)) r ∧ r.2.sem = fun _ => 0) :=
  Pipeline.θ_run_frame_around_T_track_forget (Q' := _) cfgs (fdat m) (0 : Fin 1) launch0 defs₀ Variants.none forgets tails m ρ main
    (hbody := frame_body m) (hshare := fun c => (fdat m 0 c).share_full fun _ => rfl)
    (howed := fun _ _ => rfl) (V₀ := V0 m) (opss := [hostOps1]) (hsub := sfx_sub) (hfresh := sfx_fresh) (hkeep := sfx_keeps)
    (hT := tails_writes) (hmain := hmain m Variants.none) (hA := fdat_A m)
    (hin := fun _ => Idealize.SL.BI.Entails.refl _) (hout := fun _ => Idealize.SL.BI.Entails.refl _)

/-- The frame. -/
theorem quiet : θ_run defs (onTc (τ := τ) (main (F := F))) ⟨m, fun _ => 0, ρ⟩ (fun r =>
    (∀ c : Dev nD, r.2.mem ((c.tc : Thread nD τ).loc main_arg0) = m ((c.tc : Thread nD τ).loc main_arg0))
    ∧ r.2.sem = fun _ => 0) :=
  (θ_run defs _ _).mono (fun _ h =>
    ⟨fun c => (Pipeline.RDat.FramePostR.arr_in h.1 c 0 rfl).trans ((fdat_A m c 0).trans (V_main_arg0 m c)), h.2⟩) (frame_run m ρ)

end Cert.KernelIdeal.Gumbel

end
-- ==== Proof.Transport.lean ====
/- The kernel read at bits and the kernel read at extended reals are printed as two programs. They are the same text, so
   the one frame serves both: what it is shown of the second, at any reading of the floats, holds of the first. -/
module

public import proofs.«01_k».proof.Proof.Frame
public import proofs.«01_k».proof.Proof.Gen.Kernel
public import proofs.«01_k».proof.Defs

@[expose] public section

noncomputable section

namespace Cert.KernelIdeal.Gumbel

open Idealize.ShloMosaic Idealize.ShloMosaic.TcCoe Idealize.SL.Sem

section
variable {F : FTy → Type} [FloatOps F] [hK : Cert.Kernel.Facts] [hI : Cert.KernelIdeal.Facts]

set_option maxHeartbeats 1000000 in
theorem same_body : @Cert.Kernel.cc0__body F _ _ = @Cert.KernelIdeal.cc0__body F _ _ := rfl

theorem same_table : Cert.Kernel.defs₀ (F := F) = Cert.KernelIdeal.defs₀ := by
  refine congrArg (Defs.onTc (nD := Cert.Kernel.nD) (τ := Cert.Kernel.τ) (sig := Cert.Kernel.sig) (Val := Elt F)
    (Λ := Cert.Kernel.Λ₀)) ?_
  funext l a
  obtain ⟨l, hl⟩ := l
  obtain rfl : l = 0 := by omega
  obtain ⟨t, s⟩ := a
  rfl

theorem same_defs : Cert.Kernel.defs (F := F) = Cert.KernelIdeal.defs :=
  congrArg (Pipeline.defs (nD := Cert.Kernel.nD) (τ := Cert.Kernel.τ) (sig := Cert.Kernel.sig) (Val := Elt F)
    (Λ₀ := Cert.Kernel.Λ₀) Cert.Kernel.pcfgs) same_table

open Cert.KernelIdeal Cert.KernelIdeal.Gen in
set_option maxRecDepth 100000 in
set_option maxHeartbeats 2000000 in
/-- The bits program as the same chain of stretches. -/
theorem chain_bits (c : Dev nD) :
    (Cert.Kernel.main (F := F) c : Prog (TpuEff nD τ sig (Elt F) (Pipeline.Sig Λ₀ (Fin 1) fun p => (pcfgs (F := F) p).Adm) .tc) PUnit)
      = Pipeline.chain [StableHlo.seq hostOps0, StableHlo.seq hostOps0_1, Prog.lift (.customCall (Pipeline.entry 0) ()),
          StableHlo.seq hostOps1] := by
  rewrite [StableHlo.chain_seq_cons, Pipeline.chain_cons, Pipeline.chain_cons, StableHlo.chain_seq_cons]
  chain_rfl

theorem same_main : Cert.Kernel.main (F := F) = Cert.KernelIdeal.main :=
  funext fun c => (chain_bits c).trans (Cert.KernelIdeal.Gen.main_chain c).symm

end

set_option maxHeartbeats 2000000 in
/-- The frame at bits. -/
theorem quiet_bits [hK : Cert.Kernel.Facts] : Cert.quiescent_Kernel := fun m g _ => by
  rw [same_defs (F := Bits), same_main (F := Bits)]
  exact quiet (F := Bits) m g

end Cert.KernelIdeal.Gumbel

end
-- ==== Proof.Blocks.lean ====
/- The input blocks at coordinates: block `t` of an argument holds its columns from `16384 t`, and the last block runs
   past the array, where the columns are not read. -/
module

public import proofs.«01_k».proof.Proof.Frame
public import Idealize.ShloMosaic.Lib.Pipeline.ValueKit
public import Idealize.ShloMosaic.PureOps.Ideal.Laws

@[expose] public section

noncomputable section

namespace Cert.KernelIdeal.Gumbel

open Cert.KernelIdeal Cert.KernelIdeal.Gen
open Idealize.ShloMosaic Idealize.ShloMosaic.TcCoe Idealize.ShloMosaic.Tactic

variable (m : (ℓ : Loc nD τ sig) → Buf (Elt Ideal) ℓ)

/-- Row `r`, column `q` of an argument. -/
def at2 (r : Fin 32) (q : Fin 1000000) : S32x1000000.Idx := fun a => match a with | ⟨0, _⟩ => r | ⟨1, _⟩ => q

theorem idx0 : ∀ t : Fin cfg0.N, win0_0.index t = ![0, t.val] := (by decide +kernel : ∀ t : Fin grid0.N, _)
theorem idx1 : ∀ t : Fin cfg0.N, win0_1.index t = ![0, t.val] := (by decide +kernel : ∀ t : Fin grid0.N, _)
theorem ext0 : ∀ t : Fin cfg0.N, win0_0.xsize (grid0.coords t) = ![32, min 16384 (1000000 - 16384 * t.val)] :=
  (by decide +kernel : ∀ t : Fin grid0.N, _)
theorem ext1 : ∀ t : Fin cfg0.N, win0_1.xsize (grid0.coords t) = ![32, min 16384 (1000000 - 16384 * t.val)] :=
  (by decide +kernel : ∀ t : Fin grid0.N, _)

/-- A block of the logits at a column of the array. -/
theorem fill0_any (v : Vec Ideal S32x1000000 .f32) (t : Fin cfg0.N) (d : Vec Ideal S32x16384 .f32) (j : S32x16384.Idx)
    (h : 16384 * t.val + (j 1).val < 1000000) :
    win0_0.fill (grid0.coords t) d (((cfg0.win 0).blk t).view.read (Elt Ideal) v) j
      = v (at2 (j 0) ⟨16384 * t.val + (j 1).val, h⟩) := by
  have hm : win0_0.moved (grid0.coords t) j = true := by
    rw [Pipeline.Window.moved_iff]
    intro a
    rw [ext0]
    fin_cases a
    · exact (j 0).isLt
    · show (j 1).val < min 16384 (1000000 - 16384 * t.val)
      have h2 : (j 1).val < 16384 := (j 1).isLt
      omega
  unfold Pipeline.Window.fill
  rw [dif_pos hm]
  blk_simp [idx0]
  refine congrArg v (funext fun a => Fin.ext ?_)
  fin_cases a
  · blk_simp [idx0]; simp [at2]
  · blk_simp [idx0]; simp [at2]; omega

/-- A block of the noise at a column of the array. -/
theorem fill1_any (v : Vec Ideal S32x1000000 .f32) (t : Fin cfg0.N) (d : Vec Ideal S32x16384 .f32) (j : S32x16384.Idx)
    (h : 16384 * t.val + (j 1).val < 1000000) :
    win0_1.fill (grid0.coords t) d (((cfg0.win 1).blk t).view.read (Elt Ideal) v) j
      = v (at2 (j 0) ⟨16384 * t.val + (j 1).val, h⟩) := by
  have hm : win0_1.moved (grid0.coords t) j = true := by
    rw [Pipeline.Window.moved_iff]
    intro a
    rw [ext1]
    fin_cases a
    · exact (j 0).isLt
    · show (j 1).val < min 16384 (1000000 - 16384 * t.val)
      have h2 : (j 1).val < 16384 := (j 1).isLt
      omega
  unfold Pipeline.Window.fill
  rw [dif_pos hm]
  blk_simp [idx1]
  refine congrArg v (funext fun a => Fin.ext ?_)
  fin_cases a
  · blk_simp [idx1]; simp [at2]
  · blk_simp [idx1]; simp [at2]; omega

/-- The noise the operations before the region leave. -/
def G (c : Dev nD) : Vec Ideal S32x1000000 .f32 := V m c (Pipeline.arrRef spec0 1)

theorem iblk_of (c : Dev nD) (w : Fin cfg0.W) (t : Fin cfg0.N) (v : Buf (Elt Ideal) ((c : Thread nD τ).loc (Pipeline.arrRef spec0 w)))
    (hv : V m c (Pipeline.arrRef spec0 w) = v) : iblk m c w t = ((cfg0.win w).blk t).view.read (Elt Ideal) v := by
  subst hv; rfl

/-- The logits' block at a column of the array. -/
theorem fill0_apply (c : Dev nD) (t : Fin cfg0.N) (d : Vec Ideal S32x16384 .f32) (j : S32x16384.Idx)
    (h : 16384 * t.val + (j 1).val < 1000000) :
    win0_0.fill (grid0.coords t) d (iblk m c 0 t) j
      = m ((c.tc : Thread nD τ).loc main_arg0) (at2 (j 0) ⟨16384 * t.val + (j 1).val, h⟩) := by
  rw [iblk_of m c 0 t _ (V_main_arg0 m c)]
  exact fill0_any _ t d j h

/-- The noise's block at a column of the array. -/
theorem fill1_apply (c : Dev nD) (t : Fin cfg0.N) (d : Vec Ideal S32x16384 .f32) (j : S32x16384.Idx)
    (h : 16384 * t.val + (j 1).val < 1000000) :
    win0_1.fill (grid0.coords t) d (iblk m c 1 t) j = G m c (at2 (j 0) ⟨16384 * t.val + (j 1).val, h⟩) := by
  rw [iblk_of m c 1 t (G m c) rfl]
  exact fill1_any _ t d j h

/-- The columns of a chunk as numbers. -/
theorem col_apply (t : Fin cfg0.N) (n : ℕ) (i : S32x128.Idx) :
    col (pt (grid0.coords t)) n i = BitVec.ofNat 32 (16384 * t.val + 128 * n + (i 1).val) := by
  unfold col pt
  rw [coord_0]
  show BitVec.ofNat 32 (0 * 128 + (i 1).val) + (BitVec.ofNat 32 t.val * 16384#32 + BitVec.ofNat 32 (128 * n)) = _
  apply BitVec.eq_of_toNat_eq
  simp only [BitVec.toNat_add, BitVec.toNat_mul, BitVec.toNat_ofNat]
  omega

theorem inside_apply (t : Fin cfg0.N) (n : ℕ) (hn : n < 128) (i : S32x128.Idx) :
    inside (pt (grid0.coords t)) n i = if 16384 * t.val + 128 * n + (i 1).val < 1000000 then 1#1 else 0#1 := by
  have ht : t.val < 62 := Nat.lt_of_lt_of_eq t.isLt N_0
  have hi : (i 1).val < 128 := (i 1).isLt
  show BitVec.ofBool (BitVec.slt (col (pt (grid0.coords t)) n i) 1000000#32) = _
  rw [col_apply]
  have e : BitVec.slt (BitVec.ofNat 32 (16384 * t.val + 128 * n + (i 1).val)) 1000000#32
      = decide (16384 * t.val + 128 * n + (i 1).val < 1000000) := by
    rw [BitVec.slt_eq_decide]
    congr 1
    rw [BitVec.toInt_eq_toNat_of_lt (by simp only [BitVec.toNat_ofNat]; omega)]
    rw [show (1000000#32 : BitVec 32).toInt = 1000000 from rfl]
    simp only [BitVec.toNat_ofNat]
    rw [Nat.mod_eq_of_lt (by omega)]
    apply propext; omega
  rw [e]
  by_cases h : 16384 * t.val + 128 * n + (i 1).val < 1000000
  · rw [if_pos h, decide_eq_true h]; rfl
  · rw [if_neg h, decide_eq_false h]; rfl

/-- A chunk of a block at coordinates. -/
theorem chunk_apply {F : FTy → Type} [FloatOps F] (x : Vec F S32x16384 .f32) (k : ℕ) (hk : k < 128) (i : S32x128.Idx) :
    ∃ j : S32x16384.Idx, (j 0).val = (i 0).val ∧ (j 1).val = 128 * k + (i 1).val ∧ chunk x k i = x j := by
  refine ⟨(Rect.unit (s := S32x16384) ![0, 128 * k] S32x128.size (inb_chunk k hk)).toLoadRect.idx i, ?_, ?_, ?_⟩
  · show 0 + 1 * (i 0).val = _; omega
  · show 128 * k + 1 * (i 1).val = _; omega
  · unfold chunk; rw [dif_pos hk]

end Cert.KernelIdeal.Gumbel

end
-- ==== Proof.Scalar.lean ====
/- The mathematics of one row on the extended reals, with no program in it: exponentials taken against a maximum, sums of
   them brought from one maximum to another, and the first of the greatest scores. -/
module

public import Idealize.ShloMosaic.PureOps.Ideal.Laws

@[expose] public section

noncomputable section

namespace Cert.Gumbel

open Idealize.ShloMosaic Finset

/-! ## Exponentials against a maximum -/

/-- The exponential of a logit, zero at minus infinity, as a real. -/
def ee (x : EReal) : ℝ := if x = ⊥ then 0 else Real.exp x.toReal
/-- The logit times its exponential. -/
def xe (x : EReal) : ℝ := x.toReal * ee x
/-- The factor that takes sums of exponentials against the maximum `m`. -/
def ww (m : EReal) : ℝ := if m = ⊥ then 0 else Real.exp (-m.toReal)

@[simp] theorem ee_bot : ee ⊥ = 0 := if_pos rfl
@[simp] theorem xe_bot : xe ⊥ = 0 := by simp [xe]
@[simp] theorem ww_bot : ww ⊥ = 0 := if_pos rfl
theorem ee_coe (r : ℝ) : ee (r : EReal) = Real.exp r := by simp [ee]
theorem xe_coe (r : ℝ) : xe (r : EReal) = r * Real.exp r := by simp [xe, ee_coe]
theorem ww_coe (r : ℝ) : ww (r : EReal) = Real.exp (-r) := by simp [ww]
theorem ee_nonneg (x : EReal) : 0 ≤ ee x := by unfold ee; split; exacts [le_rfl, (Real.exp_pos _).le]
theorem ee_pos {x : EReal} (h : x ≠ ⊥) : 0 < ee x := by unfold ee; rw [if_neg h]; exact Real.exp_pos _

/-- The exponential of a difference from the maximum. -/
theorem exp_sub {x m : EReal} (hx : x ≤ m) (hm : m < ⊤) : Ideal.exp (x - m) = ((ee x * ww m : ℝ) : EReal) := by
  induction m using EReal.rec with
  | top => exact absurd hm (lt_irrefl _)
  | bot => obtain rfl := le_bot_iff.mp hx; simp
  | coe r =>
    induction x using EReal.rec with
    | top => exact absurd (lt_of_le_of_lt hx hm) (lt_irrefl _)
    | bot => simp
    | coe s => rw [← EReal.coe_sub, Ideal.exp_coe, ee_coe, ww_coe, ← Real.exp_add, sub_eq_add_neg]

theorem mul_exp_sub {x m : EReal} (hx : x ≤ m) (hm : m < ⊤) :
    x * Ideal.exp (x - m) = ((xe x * ww m : ℝ) : EReal) := by
  rw [exp_sub hx hm]
  have hxt : x ≠ ⊤ := (lt_of_le_of_lt hx hm).ne
  induction x using EReal.rec with
  | top => exact absurd rfl hxt
  | bot => simp
  | coe s => rw [← EReal.coe_mul, xe, EReal.toReal_coe, mul_assoc]

/-- The kernel's guarded factor between two maxima. -/
theorem scale_eq {a m : EReal} (ha : a ≤ m) (hm : m < ⊤) :
    (if a = ⊥ then (0 : EReal) else Ideal.exp (a - m)) = ((ee a * ww m : ℝ) : EReal) := by
  split
  · next h => subst h; simp
  · exact exp_sub ha hm

/-- A sum taken against `a`, where it vanishes when `a` is minus infinity, brought to `m`. -/
theorem rescale {a m : EReal} (P : ℝ) (h : a = ⊥ → P = 0) :
    ((ww a * P : ℝ) : EReal) * ((ee a * ww m : ℝ) : EReal) = ((ww m * P : ℝ) : EReal) := by
  rw [← EReal.coe_mul]
  congr 1
  by_cases hb : a = ⊥
  · rw [h hb]; simp
  · have : ww a * ee a = 1 := by unfold ww ee; rw [if_neg hb, if_neg hb, ← Real.exp_add]; simp
    calc ww a * P * (ee a * ww m) = (ww a * ee a) * (ww m * P) := by ring
      _ = _ := by rw [this, one_mul]

/-- A sum of real extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [sum_insert ha, sum_insert ha, ih, EReal.coe_add]

/-- A supremum of finitely many logits below plus infinity is below it. -/
theorem sup_lt_top {ι : Type} (s : Finset ι) (f : ι → EReal) (h : ∀ i ∈ s, f i < ⊤) : s.sup f < ⊤ :=
  (Finset.sup_lt_iff (by exact bot_lt_top)).mpr h

/-- Where the supremum is minus infinity, so is every term, and the sums vanish. -/
theorem sum_of_sup_bot {ι : Type} (s : Finset ι) (f : ι → EReal) (v : EReal → ℝ) (hv : v ⊥ = 0) (h : s.sup f = ⊥) :
    ∑ i ∈ s, v (f i) = 0 :=
  sum_eq_zero fun i hi => by rw [(Finset.sup_eq_bot_iff f s).mp h i hi, hv]

/-! ## The row's log normaliser -/

/-- A row with a real logit: its maximum is real and the sum of its exponentials positive; the maximum plus the
    logarithm of the sum against it is the logarithm of the sum. -/
theorem logz_eq {M : EReal} (hb : M ≠ ⊥) (ht : M < ⊤) {P : ℝ} (hP : 0 < P) :
    M + Ideal.log ((ww M * P : ℝ) : EReal) = ((Real.log P : ℝ) : EReal) := by
  induction M using EReal.rec with
  | top => exact absurd ht (lt_irrefl _)
  | bot => exact absurd rfl hb
  | coe r =>
    have h0 : 0 < ww (r : EReal) * P := mul_pos (by rw [ww_coe]; exact Real.exp_pos _) hP
    rw [Ideal.log_coe, if_neg (not_le.mpr h0), ← EReal.coe_add, Real.log_mul (by rw [ww_coe]; exact (Real.exp_pos _).ne') hP.ne',
      ww_coe, Real.log_exp]
    congr 1; ring

theorem div_eq {M : EReal} (hb : M ≠ ⊥) {P : ℝ} (hP : 0 < P) (Q : ℝ) :
    Ideal.div ((ww M * Q : ℝ) : EReal) ((ww M * P : ℝ) : EReal) = ((Q / P : ℝ) : EReal) := by
  have hw : 0 < ww M := by unfold ww; rw [if_neg hb]; exact Real.exp_pos _
  have h0 : ((ww M * P : ℝ) : EReal) ≠ 0 := by
    rw [Ne, EReal.coe_eq_zero]; exact (mul_pos hw hP).ne'
  unfold Ideal.div
  rw [if_neg h0, ← EReal.coe_inv, ← EReal.coe_mul]
  congr 1
  field_simp

/-- A term of the entropy from the log probability. -/
theorem plogp {x : EReal} (hx : x < ⊤) {P : ℝ} (hP : 0 < P) :
    Ideal.exp (x - ((Real.log P : ℝ) : EReal)) * (x - ((Real.log P : ℝ) : EReal))
      = (((xe x - ee x * Real.log P) / P : ℝ) : EReal) := by
  induction x using EReal.rec with
  | top => exact absurd hx (lt_irrefl _)
  | bot => simp
  | coe s =>
    rw [← EReal.coe_sub, Ideal.exp_coe, ← EReal.coe_mul, Real.exp_sub, Real.exp_log hP, xe_coe, ee_coe]
    congr 1; field_simp

/-- The entropy, from those terms. -/
theorem entropy_eq {ι : Type} (s : Finset ι) (x : ι → EReal) (hx : ∀ i ∈ s, x i < ⊤) (hP : 0 < ∑ i ∈ s, ee (x i)) :
    -(∑ i ∈ s, Ideal.exp (x i - ((Real.log (∑ i ∈ s, ee (x i)) : ℝ) : EReal))
        * (x i - ((Real.log (∑ i ∈ s, ee (x i)) : ℝ) : EReal)))
      = ((Real.log (∑ i ∈ s, ee (x i)) - (∑ i ∈ s, xe (x i)) / (∑ i ∈ s, ee (x i)) : ℝ) : EReal) := by
  rw [sum_congr rfl fun i hi => plogp (hx i hi) hP, coe_sum, ← EReal.coe_neg]
  congr 1
  rw [← sum_div, sum_sub_distrib, ← sum_mul]
  field_simp
  ring

/-! ## One lane -/

/-- What one lane's scratch holds after the first `N` of its positions, the logits `u`, the scores `y` and the columns
    `c` position by position. -/
structure LaneOk (u y : ℕ → EReal) (c : ℕ → BitVec 32) (N : ℕ) (m s t b : EReal) (bi : BitVec 32) (bx : EReal) : Prop where
  hm : m = (range N).sup u
  hs : s = ((ww m * ∑ q ∈ range N, ee (u q) : ℝ) : EReal)
  ht : t = ((ww m * ∑ q ∈ range N, xe (u q) : ℝ) : EReal)
  hb : b = (range N).sup y
  hw : b = ⊥ ∨ ∃ q < N, y q = b ∧ bi = c q ∧ bx = u q ∧ ∀ q' < q, y q' < b

theorem LaneOk.init (u y : ℕ → EReal) (c : ℕ → BitVec 32) (bi : BitVec 32) (bx : EReal) :
    LaneOk u y c 0 ⊥ 0 0 ⊥ bi bx where
  hm := by simp
  hs := by simp
  ht := by simp
  hb := by simp
  hw := .inl rfl

theorem sup_range_add (u : ℕ → EReal) (N K : ℕ) :
    (range (N + K)).sup u = max ((range N).sup u) ((range K).sup fun k => u (N + k)) := by
  induction K with
  | zero => simp
  | succ K ih => rw [← Nat.add_assoc, range_add_one, sup_insert, ih, range_add_one, sup_insert]; ac_rfl

/-- The sums of a lane after `K` more positions. -/
theorem merge_eq (v : EReal → ℝ) (hv : v ⊥ = 0) (u : ℕ → EReal) (hu : ∀ q, u q < ⊤) (N K : ℕ) :
    ((ww ((range N).sup u) * ∑ q ∈ range N, v (u q) : ℝ) : EReal)
        * (if (range N).sup u = ⊥ then (0 : EReal) else Ideal.exp ((range N).sup u - (range (N + K)).sup u))
      + ((ww ((range K).sup fun k => u (N + k)) * ∑ k ∈ range K, v (u (N + k)) : ℝ) : EReal)
        * (if ((range K).sup fun k => u (N + k)) = ⊥ then (0 : EReal)
            else Ideal.exp (((range K).sup fun k => u (N + k)) - (range (N + K)).sup u))
      = ((ww ((range (N + K)).sup u) * ∑ q ∈ range (N + K), v (u q) : ℝ) : EReal) := by
  have ht : (range (N + K)).sup u < ⊤ := sup_lt_top _ _ fun q _ => hu q
  have h1 : (range N).sup u ≤ (range (N + K)).sup u := by rw [sup_range_add]; exact le_max_left _ _
  have h2 : ((range K).sup fun k => u (N + k)) ≤ (range (N + K)).sup u := by rw [sup_range_add]; exact le_max_right _ _
  rw [scale_eq h1 ht, scale_eq h2 ht, rescale _ (sum_of_sup_bot _ _ v hv), rescale _ (sum_of_sup_bot _ _ v hv),
    ← EReal.coe_add, ← mul_add, ← sum_range_add]

/-- The running winner over a list of scores: where a score is greater it takes over. -/
def win (y : ℕ → EReal) (b : EReal) : ℕ → EReal
  | 0 => b
  | k + 1 => if win y b k < y k then y k else win y b k
def winOf {α : Type} (y : ℕ → EReal) (b : EReal) (c : ℕ → α) (a : α) : ℕ → α
  | 0 => a
  | k + 1 => if win y b k < y k then c k else winOf y b c a k

theorem win_eq (y : ℕ → EReal) (b : EReal) (K : ℕ) : win y b K = max b ((range K).sup y) := by
  induction K with
  | zero => simp [win]
  | succ K ih =>
    rw [win, range_add_one, sup_insert, ih]
    rw [max_left_comm]
    split
    · next h => rw [max_eq_left h.le]
    · next h => rw [max_eq_right (not_lt.mp h)]

/-- The winner after `K` more positions: still the first of the greatest. -/
theorem winner_step {u y : ℕ → EReal} {c : ℕ → BitVec 32} {N : ℕ} {b : EReal} {bi : BitVec 32} {bx : EReal}
    (hb : b = (range N).sup y)
    (h : b = ⊥ ∨ ∃ q < N, y q = b ∧ bi = c q ∧ bx = u q ∧ ∀ q' < q, y q' < b) (K : ℕ) :
    win (fun k => y (N + k)) b K = ⊥ ∨ ∃ q < N + K, y q = win (fun k => y (N + k)) b K
      ∧ winOf (fun k => y (N + k)) b (fun k => c (N + k)) bi K = c q
      ∧ winOf (fun k => y (N + k)) b (fun k => u (N + k)) bx K = u q
      ∧ ∀ q' < q, y q' < win (fun k => y (N + k)) b K := by
  induction K with
  | zero => exact h
  | succ K ih =>
    by_cases hlt : win (fun k => y (N + k)) b K < y (N + K)
    · refine .inr ⟨N + K, by omega, ?_, ?_, ?_, ?_⟩
      · rw [win, if_pos hlt]
      · rw [winOf, if_pos hlt]
      · rw [winOf, if_pos hlt]
      · intro q' hq'
        rw [win, if_pos hlt]
        refine lt_of_le_of_lt ?_ hlt
        rw [win_eq, hb, ← sup_range_add]
        exact le_sup (f := y) (mem_range.mpr hq')
    · rw [win, winOf, winOf, if_neg hlt, if_neg hlt, if_neg hlt]
      rcases ih with h | ⟨q, hq, h⟩
      · exact .inl h
      · exact .inr ⟨q, by omega, h⟩

/-- One block on one lane. -/
theorem LaneOk.step {u y : ℕ → EReal} {c : ℕ → BitVec 32} {N K : ℕ} {m s t b : EReal} {bi : BitVec 32} {bx : EReal}
    (h : LaneOk u y c N m s t b bi bx) (hu : ∀ q, u q < ⊤) {mb sb tb : EReal}
    (hmb : mb = (range K).sup fun k => u (N + k))
    (hsb : sb = ((ww mb * ∑ k ∈ range K, ee (u (N + k)) : ℝ) : EReal))
    (htb : tb = ((ww mb * ∑ k ∈ range K, xe (u (N + k)) : ℝ) : EReal)) :
    LaneOk u y c (N + K) (max m mb)
      (s * (if m = ⊥ then (0 : EReal) else Ideal.exp (m - max m mb)) + sb * (if mb = ⊥ then (0 : EReal) else Ideal.exp (mb - max m mb)))
      (t * (if m = ⊥ then (0 : EReal) else Ideal.exp (m - max m mb)) + tb * (if mb = ⊥ then (0 : EReal) else Ideal.exp (mb - max m mb)))
      (win (fun k => y (N + k)) b K) (winOf (fun k => y (N + k)) b (fun k => c (N + k)) bi K)
      (winOf (fun k => y (N + k)) b (fun k => u (N + k)) bx K) := by
  have hM : max m mb = (range (N + K)).sup u := by rw [h.hm, hmb, sup_range_add]
  refine ⟨hM, ?_, ?_, ?_, winner_step h.hb h.hw K⟩
  · rw [hM, h.hs, hsb, h.hm, hmb]; exact merge_eq ee ee_bot u hu N K
  · rw [hM, h.ht, htb, h.hm, hmb]; exact merge_eq xe xe_bot u hu N K
  · rw [win_eq, h.hb, sup_range_add]

end Cert.Gumbel

end
-- ==== Proof.LaneMath.lean ====
/- One lane of the scratch at one grid point on the extended reals: the folds of Chain.lean read at an index are the
   sums and suprema of Scalar.lean. -/
module

public import proofs.«01_k».proof.Proof.Chain
public import proofs.«01_k».proof.Proof.Scalar

@[expose] public section

noncomputable section

namespace Cert.KernelIdeal.Gumbel

open Cert.KernelIdeal Cert.KernelIdeal.Gen Cert.Gumbel
open Idealize.ShloMosaic Idealize.ShloMosaic.TcCoe
open Finset

theorem ninf_apply (i : S32x128.Idx) : (ninf : V32 Ideal) i = ⊥ := by
  show Ideal.ofBits .f32 0xFF800000#32 = ⊥
  simp [Ideal.ofBits, Ideal.ieee]

theorem zero_apply (i : S32x128.Idx) : (zero : V32 Ideal) i = 0 := Ideal.ofBits_zero_f32

theorem bit_cases (b : BitVec 1) : b = 1#1 ∨ b = 0#1 := by
  revert b; decide

/-- A choice by a decided bit. -/
theorem select_dec {α : Type} (p : Prop) [Decidable p] (a b : α) :
    Scalar.select (BitVec.ofBool (decide p)) a b = if p then a else b := by
  unfold Scalar.select
  by_cases h : p <;> simp [h]

theorem scale_apply (a m : V32 Ideal) (i : S32x128.Idx) :
    scale a m i = if (a i : EReal) = ⊥ then (0 : EReal) else Ideal.exp ((a i : EReal) - m i) := by
  show Scalar.select (Ideal.cmp .oeq (a i) ((ninf : V32 Ideal) i)) ((zero : V32 Ideal) i) (Ideal.exp ((a i : EReal) - m i)) = _
  rw [ninf_apply, zero_apply]
  exact select_dec _ _ _

theorem merge_apply (old sb mb m c : V32 Ideal) (i : S32x128.Idx) :
    (merge old sb mb m c i : EReal) = (old i : EReal) * c i + (sb i : EReal) * scale mb m i := rfl

section Lane

variable {u y : ℕ → EReal} {cc : ℕ → BitVec 32} {N : ℕ} {i : S32x128.Idx} {X G : ℕ → V32 Ideal} {C : ℕ → I32 Ideal}

theorem mbF_apply (hX : ∀ k < 128, (X k i : EReal) = u (N + k)) (n : ℕ) (hn : n ≤ 128) :
    (mbF X n i : EReal) = (range n).sup fun k => u (N + k) := by
  induction n with
  | zero => exact ninf_apply i
  | succ n ih =>
    rw [range_add_one, sup_insert, ← ih (by omega), ← hX n (by omega)]
    exact max_comm _ _

theorem sumF_apply {E : ℕ → V32 Ideal} {e : ℕ → ℝ} (hE : ∀ k < 128, (E k i : EReal) = ((e k : ℝ) : EReal)) (n : ℕ) (hn : n ≤ 128) :
    (sumF E n i : EReal) = ((∑ k ∈ range n, e k : ℝ) : EReal) := by
  induction n with
  | zero => rw [range_zero, sum_empty, EReal.coe_zero]; exact zero_apply i
  | succ n ih =>
    rw [sum_range_succ, EReal.coe_add, ← ih (by omega), ← hE n (by omega)]
    rfl

theorem take_apply (a b : EReal) {α : Type} (p q : α) :
    Scalar.select (Ideal.cmp .ogt a b) p q = if b < a then p else q := select_dec _ _ _

theorem bF_apply (b : V32 Ideal) (hY : ∀ k < 128, (X k i : EReal) + G k i = y (N + k)) (n : ℕ) (hn : n ≤ 128) :
    (bF b X G n i : EReal) = win (fun k => y (N + k)) (b i) n := by
  induction n with
  | zero => rfl
  | succ n ih =>
    rw [win, ← ih (by omega), ← hY n (by omega)]
    exact take_apply _ _ _ _

theorem biF_apply (b : V32 Ideal) (bi : I32 Ideal) (hY : ∀ k < 128, (X k i : EReal) + G k i = y (N + k))
    (hC : ∀ k < 128, C k i = cc (N + k)) (n : ℕ) (hn : n ≤ 128) :
    biF b bi C X G n i = winOf (fun k => y (N + k)) (b i) (fun k => cc (N + k)) (bi i) n := by
  induction n with
  | zero => rfl
  | succ n ih =>
    rw [winOf, ← ih (by omega), ← hC n (by omega), ← bF_apply b hY n (by omega), ← hY n (by omega)]
    exact take_apply _ _ _ _

theorem bxF_apply (b bx : V32 Ideal) (hY : ∀ k < 128, (X k i : EReal) + G k i = y (N + k))
    (hX : ∀ k < 128, (X k i : EReal) = u (N + k)) (n : ℕ) (hn : n ≤ 128) :
    (bxF b bx X G n i : EReal) = winOf (fun k => y (N + k)) (b i) (fun k => u (N + k)) (bx i) n := by
  induction n with
  | zero => rfl
  | succ n ih =>
    rw [winOf, ← ih (by omega), ← hX n (by omega), ← bF_apply b hY n (by omega), ← hY n (by omega)]
    exact take_apply _ _ _ _

theorem le_block (hX : ∀ k < 128, (X k i : EReal) = u (N + k)) {k : ℕ} (hk : k < 128) : u (N + k) ≤ mbF X 128 i := by
  rw [mbF_apply hX 128 le_rfl]
  exact le_sup (f := fun k => u (N + k)) (mem_range.mpr hk)

theorem block_lt (hu : ∀ q, u q < ⊤) (hX : ∀ k < 128, (X k i : EReal) = u (N + k)) : (mbF X 128 i : EReal) < ⊤ := by
  rw [mbF_apply hX 128 le_rfl]
  exact sup_lt_top _ _ fun k _ => hu _

theorem eFull_apply (hu : ∀ q, u q < ⊤) (hX : ∀ k < 128, (X k i : EReal) = u (N + k)) (k : ℕ) (hk : k < 128) :
    (eFull (mbF X 128) X k i : EReal) = ((ee (u (N + k)) * ww (mbF X 128 i) : ℝ) : EReal) := by
  show Ideal.exp ((X k i : EReal) - mbF X 128 i) = _
  rw [hX k hk]
  exact exp_sub (le_block hX hk) (block_lt hu hX)

theorem xeFull_apply (hu : ∀ q, u q < ⊤) (hX : ∀ k < 128, (X k i : EReal) = u (N + k)) (k : ℕ) (hk : k < 128) :
    (xeFull (mbF X 128) X k i : EReal) = ((xe (u (N + k)) * ww (mbF X 128 i) : ℝ) : EReal) := by
  show (X k i : EReal) * Ideal.exp ((X k i : EReal) - mbF X 128 i) = _
  rw [hX k hk]
  exact mul_exp_sub (le_block hX hk) (block_lt hu hX)

theorem eMask_apply (j : BitVec 32) (hu : ∀ q, u q < ⊤) (hX : ∀ k < 128, (X k i : EReal) = u (N + k))
    (hI : ∀ k < 128, inside j k i = 0#1 → u (N + k) = ⊥) (k : ℕ) (hk : k < 128) :
    (eMask j (mbF X 128) X k i : EReal) = ((ee (u (N + k)) * ww (mbF X 128 i) : ℝ) : EReal) := by
  show (Scalar.select (inside j k i) (eFull (mbF X 128) X k i) ((zero : V32 Ideal) i) : EReal) = _
  rcases bit_cases (inside j k i) with h | h
  · rw [h]; exact eFull_apply hu hX k hk
  · rw [hI k hk h, h, zero_apply]; simp [Scalar.select]

theorem xeMask_apply (j : BitVec 32) (hu : ∀ q, u q < ⊤) (hX : ∀ k < 128, (X k i : EReal) = u (N + k))
    (hI : ∀ k < 128, inside j k i = 0#1 → u (N + k) = ⊥) (k : ℕ) (hk : k < 128) :
    (xeMask j (mbF X 128) X k i : EReal) = ((xe (u (N + k)) * ww (mbF X 128 i) : ℝ) : EReal) := by
  show (Scalar.select (inside j k i) ((X k i : EReal) * Scalar.select (inside j k i) (eFull (mbF X 128) X k i) ((zero : V32 Ideal) i))
    ((zero : V32 Ideal) i) : EReal) = _
  rcases bit_cases (inside j k i) with h | h
  · rw [h]; exact xeFull_apply hu hX k hk
  · rw [hI k hk h, h, zero_apply]; simp [Scalar.select]

theorem sum_apply (v : EReal → ℝ) {E : ℕ → V32 Ideal}
    (hE : ∀ k < 128, (E k i : EReal) = ((v (u (N + k)) * ww (mbF X 128 i) : ℝ) : EReal)) :
    (sumF E 128 i : EReal) = ((ww (mbF X 128 i) * ∑ k ∈ range 128, v (u (N + k)) : ℝ) : EReal) := by
  rw [sumF_apply hE 128 le_rfl, ← sum_mul, mul_comm]

/-- A lane of the state. -/
def StOk (u y : ℕ → EReal) (cc : ℕ → BitVec 32) (N : ℕ) (st : St Ideal) (i : S32x128.Idx) : Prop :=
  LaneOk u y cc N (st.m i) (st.s i) (st.t i) (st.b i) (st.bi i) (st.bx i)

theorem StOk.init (u y : ℕ → EReal) (cc : ℕ → BitVec 32) (i : S32x128.Idx) : StOk u y cc 0 St.init i := by
  have h := LaneOk.init u y cc (St.init (F := Ideal) |>.bi i) (St.init (F := Ideal) |>.bx i)
  unfold StOk
  rw [show ((St.init : St Ideal).m i : EReal) = ⊥ from ninf_apply i, show ((St.init : St Ideal).b i : EReal) = ⊥ from ninf_apply i,
    show ((St.init : St Ideal).s i : EReal) = 0 from zero_apply i, show ((St.init : St Ideal).t i : EReal) = 0 from zero_apply i]
  exact h

theorem StOk.full {st : St Ideal} (h : StOk u y cc N st i) (j : BitVec 32) (hu : ∀ q, u q < ⊤)
    (hX : ∀ k < 128, (X k i : EReal) = u (N + k)) (hY : ∀ k < 128, (X k i : EReal) + G k i = y (N + k))
    (hC : ∀ k < 128, col j k i = cc (N + k)) : StOk u y cc (N + 128) (st.full j X G) i := by
  have hs := LaneOk.step (K := 128) h hu (mbF_apply hX 128 le_rfl) (sum_apply ee (eFull_apply hu hX)) (sum_apply xe (xeFull_apply hu hX))
  unfold StOk
  rw [← bF_apply st.b hY 128 le_rfl, ← biF_apply st.b st.bi hY hC 128 le_rfl, ← bxF_apply st.b st.bx hY hX 128 le_rfl] at hs
  simp only [St.full, merge_apply, scale_apply]
  exact hs

theorem StOk.tail {st : St Ideal} (h : StOk u y cc N st i) (j : BitVec 32) (hu : ∀ q, u q < ⊤)
    (hX : ∀ k < 128, (X k i : EReal) = u (N + k)) (hY : ∀ k < 128, (X k i : EReal) + G k i = y (N + k))
    (hC : ∀ k < 128, col j k i = cc (N + k)) (hI : ∀ k < 128, inside j k i = 0#1 → u (N + k) = ⊥) :
    StOk u y cc (N + 128) (st.tail j X G) i := by
  have hs := LaneOk.step (K := 128) h hu (mbF_apply hX 128 le_rfl) (sum_apply ee (eMask_apply j hu hX hI))
    (sum_apply xe (xeMask_apply j hu hX hI))
  unfold StOk
  rw [← bF_apply st.b hY 128 le_rfl, ← biF_apply st.b st.bi hY hC 128 le_rfl, ← bxF_apply st.b st.bx hY hX 128 le_rfl] at hs
  simp only [St.tail, merge_apply, scale_apply]
  exact hs

end Lane

end Cert.KernelIdeal.Gumbel

end
-- ==== Proof.ValueRun.lean ====
/- The run of the idealized kernel with its results: the scratch follows a recursion on the grid's points, and the three
   outputs are read off it after the last. -/
module

public import proofs.«01_k».proof.Proof.Blocks
public import proofs.«01_k».proof.Proof.LaneMath

@[expose] public section

noncomputable section

namespace Cert.KernelIdeal.Gumbel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The last block's columns past the array do not matter -/

theorem masked_inside (j : BitVec 32) (X : ℕ → V32 Ideal) (n : ℕ) (i : S32x128.Idx) (h : inside j n i = 1#1) :
    masked j X n i = X n i := by
  show Scalar.select (inside j n i) (X n i) (ninf i) = _
  rw [h]; rfl
theorem masked_outside (j : BitVec 32) (X : ℕ → V32 Ideal) (n : ℕ) (i : S32x128.Idx) (h : inside j n i = 0#1) :
    masked j X n i = ⊥ := by
  show Scalar.select (inside j n i) (X n i) (ninf i) = _
  rw [h, ninf_apply]; rfl

/-- A chunk's scores. -/
abbrev plus (a b : V32 Ideal) : V32 Ideal := addf (F := Ideal) (s := S32x128) (φ := .f32) a b

theorem bF_congr (b : V32 Ideal) (X G G' : ℕ → V32 Ideal) (h : ∀ n, plus (X n) (G n) = plus (X n) (G' n)) (n : ℕ) :
    bF b X G n = bF b X G' n := by
  induction n with
  | zero => rfl
  | succ n ih => have e : _ = _ := h n; simp only [plus] at e; simp only [bF, e, ih]
theorem biF_congr (b : V32 Ideal) (bi : I32 Ideal) (C : ℕ → I32 Ideal) (X G G' : ℕ → V32 Ideal)
    (h : ∀ n, plus (X n) (G n) = plus (X n) (G' n)) (n : ℕ) : biF b bi C X G n = biF b bi C X G' n := by
  induction n with
  | zero => rfl
  | succ n ih => have e : _ = _ := h n; simp only [plus] at e; simp only [biF, e, ih, bF_congr b X G G' h]
theorem bxF_congr (b bx : V32 Ideal) (X G G' : ℕ → V32 Ideal) (h : ∀ n, plus (X n) (G n) = plus (X n) (G' n)) (n : ℕ) :
    bxF b bx X G n = bxF b bx X G' n := by
  induction n with
  | zero => rfl
  | succ n ih => have e : _ = _ := h n; simp only [plus] at e; simp only [bxF, e, ih, bF_congr b X G G' h]

theorem tail_congr (j : BitVec 32) (X G G' : ℕ → V32 Ideal) (st : St Ideal)
    (h : ∀ n, plus (X n) (G n) = plus (X n) (G' n)) : st.tail j X G = st.tail j X G' := by
  unfold St.tail
  rw [bF_congr st.b X G G' h, biF_congr st.b st.bi (col j) X G G' h, bxF_congr st.b st.bx X G G' h]

/-- The chunks of two blocks that agree on the array's columns. -/
theorem chunk_agree (t : Fin cfg0.N) (x x' : Vec Ideal S32x16384 .f32)
    (h : ∀ j : S32x16384.Idx, 16384 * t.val + (j 1).val < 1000000 → x j = x' j) (n : ℕ) (i : S32x128.Idx)
    (hi : inside (pt (grid0.coords t)) n i = 1#1) : chunk x n i = chunk x' n i := by
  unfold chunk
  split
  · next hn =>
    refine h _ ?_
    rw [inside_apply t n hn] at hi
    split at hi
    · next hlt =>
      show 16384 * t.val + (128 * n + 1 * (i 1).val) < 1000000
      omega
    · exact absurd hi (by decide)
  · rfl

theorem stepTail_agree (t : Fin cfg0.N) (x x' g g' : Vec Ideal S32x16384 .f32) (st : St Ideal)
    (hx : ∀ j : S32x16384.Idx, 16384 * t.val + (j 1).val < 1000000 → x j = x' j)
    (hg : ∀ j : S32x16384.Idx, 16384 * t.val + (j 1).val < 1000000 → g j = g' j) :
    stepTail (grid0.coords t) x g st = stepTail (grid0.coords t) x' g' st := by
  unfold stepTail
  have hX : masked (pt (grid0.coords t)) (chunk x) = masked (pt (grid0.coords t)) (chunk x') := by
    funext n i
    rcases bit_cases (inside (pt (grid0.coords t)) n i) with h | h
    · rw [masked_inside _ _ _ _ h, masked_inside _ _ _ _ h, chunk_agree t x x' hx n i h]
    · rw [masked_outside _ _ _ _ h, masked_outside _ _ _ _ h]
  rw [hX]
  refine tail_congr _ _ _ _ _ fun n => ?_
  funext i
  show (masked (pt (grid0.coords t)) (chunk x') n i + chunk g n i : EReal) = masked (pt (grid0.coords t)) (chunk x') n i + chunk g' n i
  rcases bit_cases (inside (pt (grid0.coords t)) n i) with h | h
  · rw [chunk_agree t g g' hg n i h]
  · rw [masked_outside _ _ _ _ h, EReal.bot_add, EReal.bot_add]

theorem fill0_in0 (c : Dev nD) (t : Fin cfg0.N) (d : Vec Ideal S32x16384 .f32) (j : S32x16384.Idx)
    (h : 16384 * t.val + (j 1).val < 1000000) : win0_0.fill (grid0.coords t) d (iblk m c 0 t) j = in0 m c t j :=
  (fill0_apply m c t d j h).trans (fill0_apply m c t _ j h).symm
theorem fill1_in1 (c : Dev nD) (t : Fin cfg0.N) (d : Vec Ideal S32x16384 .f32) (j : S32x16384.Idx)
    (h : 16384 * t.val + (j 1).val < 1000000) : win0_1.fill (grid0.coords t) d (iblk m c 1 t) j = in1 m c t j :=
  (fill1_apply m c t d j h).trans (fill1_apply m c t _ j h).symm

theorem in_array (t : Fin cfg0.N) (ht : t.val < 61) (j : S32x16384.Idx) : 16384 * t.val + (j 1).val < 1000000 := by
  have : (j 1).val < 16384 := (j 1).isLt
  omega

/-! ## The recursion -/

/-- The scratch before point `n`. -/
def stN (c : Dev nD) : ℕ → St Ideal
  | 0 => St.init
  | n + 1 =>
    if h : n < cfg0.N then
      if n < 61 then stepFull (grid0.coords ⟨n, h⟩) (in0 m c ⟨n, h⟩) (in1 m c ⟨n, h⟩) (stN c n)
      else stepTail (grid0.coords ⟨n, h⟩) (in0 m c ⟨n, h⟩) (in1 m c ⟨n, h⟩) (stN c n)
    else stN c n

theorem stN_full (c : Dev nD) (t : Fin cfg0.N) (ht : t.val < 61) :
    stN m c (t.val + 1) = stepFull (grid0.coords t) (in0 m c t) (in1 m c t) (stN m c t.val) := by
  rw [stN, dif_pos t.isLt, if_pos ht]
theorem stN_tail (c : Dev nD) (t : Fin cfg0.N) (ht : t.val = 61) :
    stN m c 62 = stepTail (grid0.coords t) (in0 m c t) (in1 m c t) (stN m c t.val) := by
  rw [show 62 = t.val + 1 by omega, stN, dif_pos t.isLt, if_neg (by omega)]

/-- The data of the run. -/
def vdat (_ : Fin 1) (c : Dev nD) : Dat τ (Elt Ideal) Unit ℕ (UR sig nD τ) ℕ cfg0 c where
  A w := V m c (Pipeline.arrRef spec0 w)
  after w t := match w with
    | ⟨0, _⟩ => in0 m c t
    | ⟨1, _⟩ => in1 m c t
    | ⟨2, _⟩ => sampOut (stN m c 62)
    | ⟨3, _⟩ => logpOut (stN m c 62)
    | ⟨4, _⟩ => entOut (stN m c 62)
  Φ t := if t.val = 0 then Pipeline.ΦA spec0 c
    else iprop(holds c scr0 scr1 scr2 scr3 scr4 scr5 (stN m c t.val) ∗ ∃ r, prngReg c r)
  q _ := fullShare
  owed _ := 0

theorem vdat_before0 (c : Dev nD) (t : Fin cfg0.N) (d) :
    (vdat m 0 c).before 0 t d = win0_0.fill (grid0.coords t) d (iblk m c 0 t) := by
  unfold Dat.before; rw [if_pos (fetch0_0 t)]; rfl
theorem vdat_before1 (c : Dev nD) (t : Fin cfg0.N) (d) :
    (vdat m 0 c).before 1 t d = win0_1.fill (grid0.coords t) d (iblk m c 1 t) := by
  unfold Dat.before; rw [if_pos (fetch0_1 t)]; rfl

theorem idle2 (t : Fin cfg0.N) (h : t.val ≠ 61) : idle0 2 (grid0.coords t) = true := by
  show (!(k0_cond4 (grid0.coords t) == 1#1)) = true
  simpa using mt (isEnd_iff t).mp h
theorem idle3 (t : Fin cfg0.N) (h : t.val ≠ 61) : idle0 3 (grid0.coords t) = true := idle2 t h
theorem idle4 (t : Fin cfg0.N) (h : t.val ≠ 61) : idle0 4 (grid0.coords t) = true := idle2 t h
theorem live2 (t : Fin cfg0.N) (h : t.val = 61) : idle0 2 (grid0.coords t) = false := by
  show (!(k0_cond4 (grid0.coords t) == 1#1)) = false
  simpa using (isEnd_iff t).mpr h
theorem live3 (t : Fin cfg0.N) (h : t.val = 61) : idle0 3 (grid0.coords t) = false := live2 t h
theorem live4 (t : Fin cfg0.N) (h : t.val = 61) : idle0 4 (grid0.coords t) = false := live2 t h

theorem unflushed2 (t : Fin cfg0.N) (h : t.val ≠ 61) : (win0 2).flush t = false := by
  have ht : t.val < 62 := Nat.lt_of_lt_of_eq t.isLt N_0
  exact Bool.eq_false_iff.mpr fun e => by have := (flush0_2 t).mp e; omega
theorem unflushed3 (t : Fin cfg0.N) (h : t.val ≠ 61) : (win0 3).flush t = false := by
  have ht : t.val < 62 := Nat.lt_of_lt_of_eq t.isLt N_0
  exact Bool.eq_false_iff.mpr fun e => by have := (flush0_3 t).mp e; omega
theorem unflushed4 (t : Fin cfg0.N) (h : t.val ≠ 61) : (win0 4).flush t = false := by
  have ht : t.val < 62 := Nat.lt_of_lt_of_eq t.isLt N_0
  exact Bool.eq_false_iff.mpr fun e => by have := (flush0_4 t).mp e; omega

/-- An output no point has written yet still holds what it held. -/
theorem before_idle (c : Dev nD) (w : Fin cfg0.W) (hw : (cfg0.win w).isOut = true)
    (hi : ∀ t : Fin cfg0.N, t.val ≠ 61 → idle0 w (grid0.coords t) = true)
    (hf : ∀ t : Fin cfg0.N, t.val ≠ 61 → (win0 w).flush t = false) (d) :
    ∀ (n : ℕ) (h : n < cfg0.N), (vdat m 0 c).before w ⟨n, h⟩ d = d
  | 0, h => by unfold Dat.before; rw [(cfg0.win w).fetch_out hw, if_neg Bool.false_ne_true, if_pos rfl]
  | n + 1, h => by
    have hn : n + 1 < 62 := Nat.lt_of_lt_of_eq h N_0
    unfold Dat.before
    rw [(cfg0.win w).fetch_out hw, if_neg Bool.false_ne_true, if_neg (Nat.succ_ne_zero n)]
    dsimp only
    rw [hf _ (by show n ≠ 61; omega), if_neg Bool.false_ne_true, hi _ (by show n ≠ 61; omega)]
    exact ((vdat m 0 c).found_eq_before w _ d).trans (before_idle c w hw hi hf d n (by omega))

theorem before2 (c : Dev nD) (t : Fin cfg0.N) (d) : (vdat m 0 c).before 2 t d = d :=
  before_idle m c 2 rfl idle2 unflushed2 d t.val t.isLt
theorem before3 (c : Dev nD) (t : Fin cfg0.N) (d) : (vdat m 0 c).before 3 t d = d :=
  before_idle m c 3 rfl idle3 unflushed3 d t.val t.isLt
theorem before4 (c : Dev nD) (t : Fin cfg0.N) (d) : (vdat m 0 c).before 4 t d = d :=
  before_idle m c 4 rfl idle4 unflushed4 d t.val t.isLt

theorem Φ_zero (c : Dev nD) (t : Fin cfg0.N) (h : t.val = 0) : (vdat m 0 c).Φ t.castSucc = Pipeline.ΦA spec0 c := by
  dsimp only [vdat]; exact if_pos h
theorem Φ_pos (c : Dev nD) (t : Fin cfg0.N) (h : t.val ≠ 0) :
    (vdat m 0 c).Φ t.castSucc = iprop(holds c scr0 scr1 scr2 scr3 scr4 scr5 (stN m c t.val) ∗ ∃ r, prngReg c r) := by
  dsimp only [vdat]; exact if_neg h
theorem Φ_succ (c : Dev nD) (t : Fin cfg0.N) :
    (vdat m 0 c).Φ t.succ = iprop(holds c scr0 scr1 scr2 scr3 scr4 scr5 (stN m c (t.val + 1)) ∗ ∃ r, prngReg c r) := by
  dsimp only [vdat]; exact if_neg (Nat.succ_ne_zero _)

theorem fill0_eq (c : Dev nD) (t : Fin cfg0.N) (ht : t.val < 61) (d : Vec Ideal S32x16384 .f32) :
    win0_0.fill (grid0.coords t) d (iblk m c 0 t) = in0 m c t := funext fun j => fill0_in0 m c t d j (in_array t ht j)
theorem fill1_eq (c : Dev nD) (t : Fin cfg0.N) (ht : t.val < 61) (d : Vec Ideal S32x16384 .f32) :
    win0_1.fill (grid0.coords t) d (iblk m c 1 t) = in1 m c t := funext fun j => fill1_in1 m c t d j (in_array t ht j)

/-- The body before the last point, from the windows as the obligation states them. -/
theorem body_early (c : Dev nD) (t : Fin cfg0.N) (ht : t.val < 61) (K : PUnit → sProp 𝕄) :
    iprop((vdat m 0 c).Φ t.castSucc ∗ owns (c : Thread nD τ) (stg0 t) fullShare (in0 m c t) ∗ owns (c : Thread nD τ) (stg1 t) fullShare (in1 m c t)
        ∗ (∃ d, owns (c : Thread nD τ) (stg2 t) fullShare d) ∗ (∃ d, owns (c : Thread nD τ) (stg3 t) fullShare d)
        ∗ (∃ d, owns (c : Thread nD τ) (stg4 t) fullShare d)
        ∗ (iprop((vdat m 0 c).Φ t.succ ∗ owns (c : Thread nD τ) (stg0 t) fullShare (in0 m c t) ∗ owns (c : Thread nD τ) (stg1 t) fullShare (in1 m c t)
          ∗ (∃ d, owns (c : Thread nD τ) (stg2 t) fullShare d) ∗ (∃ d, owns (c : Thread nD τ) (stg3 t) fullShare d)
          ∗ (∃ d, owns (c : Thread nD τ) (stg4 t) fullShare d)) -∗ K ⟨⟩))
      ⊢ wp frame (wpE (defs₀ (F := Ideal)) Variants.none c none) Set.univ (bodyAt0 t) K := by
  unfold bodyAt0
  rw [Φ_succ, stN_full m c t ht]
  by_cases hz : t.val = 0
  · rw [Φ_zero m c t hz, scratch_any, show stN m c t.val = St.init by rw [hz]; rfl]
    iintro ⟨⟨HS, Hg⟩, H0, H1, H2, H3, H4, Hk⟩
    iapply (stepFirst_run c (grid0.coords t) _ _ _ _ _ _ _ _ _ _ _ _ _ _ _ _ _ _ _ _ _ _ ((isFirst_iff t).mpr hz)
      ((isBefore_iff t).mpr (by omega)) (fun h => by have := (isLast_iff t).mp h; omega)
      (fun h => by have := (isEnd_iff t).mp h; omega) (in0 m c t) (in1 m c t) Set.univ K)
    isplitl [H0]; · iexact H0
    isplitl [H1]; · iexact H1
    isplitl [H2]; · iexact H2
    isplitl [H3]; · iexact H3
    isplitl [H4]; · iexact H4
    isplitl [HS]; · iapply (scratch_join (F := Ideal) c); iexact HS
    iintro ⟨H0, H1, H2, H3, H4, HS⟩
    iapply Hk
    isplitl [HS Hg]
    · isplitl [HS]; · iexact HS
      iexact Hg
    isplitl [H0]; · iexact H0
    isplitl [H1]; · iexact H1
    isplitl [H2]; · iexact H2
    isplitl [H3]; · iexact H3
    iexact H4
  · rw [Φ_pos m c t hz]
    iintro ⟨⟨HS, Hg⟩, H0, H1, H2, H3, H4, Hk⟩
    iapply (stepMid_run c (grid0.coords t) _ _ _ _ _ _ _ _ _ _ _ _ _ _ _ _ _ _ _ _ _ _
      (fun h => hz ((isFirst_iff t).mp h)) ((isBefore_iff t).mpr ht)
      (fun h => by have := (isLast_iff t).mp h; omega) (fun h => by have := (isEnd_iff t).mp h; omega)
      (in0 m c t) (in1 m c t) (stN m c t.val) Set.univ K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    iapply Hk
    isplitl [HS Hg]
    · isplitl [HS]; · iexact HS
      iexact Hg
    isplitl [H0]; · iexact H0
    isplitl [H1]; · iexact H1
    isplitl [H2]; · iexact H2
    isplitl [H3]; · iexact H3
    iexact H4

/-- The body at the last point. -/
theorem body_last (c : Dev nD) (t : Fin cfg0.N) (ht : t.val = 61) (x g : Vec Ideal S32x16384 .f32)
    (hst : stepTail (grid0.coords t) x g (stN m c t.val) = stN m c 62) (K : PUnit → sProp 𝕄) :
    iprop((vdat m 0 c).Φ t.castSucc ∗ owns (c : Thread nD τ) (stg0 t) fullShare x ∗ owns (c : Thread nD τ) (stg1 t) fullShare g
        ∗ (∃ d, owns (c : Thread nD τ) (stg2 t) fullShare d) ∗ (∃ d, owns (c : Thread nD τ) (stg3 t) fullShare d)
        ∗ (∃ d, owns (c : Thread nD τ) (stg4 t) fullShare d)
        ∗ (iprop((vdat m 0 c).Φ t.succ ∗ owns (c : Thread nD τ) (stg0 t) fullShare x ∗ owns (c : Thread nD τ) (stg1 t) fullShare g
          ∗ owns (c : Thread nD τ) (stg2 t) fullShare (sampOut (stN m c 62)) ∗ owns (c : Thread nD τ) (stg3 t) fullShare (logpOut (stN m c 62))
          ∗ owns (c : Thread nD τ) (stg4 t) fullShare (entOut (stN m c 62))) -∗ K ⟨⟩))
      ⊢ wp frame (wpE (defs₀ (F := Ideal)) Variants.none c none) Set.univ (bodyAt0 t) K := by
  unfold bodyAt0
  rw [Φ_succ, Φ_pos m c t (by omega), show t.val + 1 = 62 by omega, ← hst]
  iintro ⟨⟨HS, Hg⟩, H0, H1, H2, H3, H4, Hk⟩
  iapply (stepLast_run c (grid0.coords t) _ _ _ _ _ _ _ _ _ _ _ _ _ _ _ _ _ _ _ _ _ _
    (fun h => by have := (isFirst_iff t).mp h; omega) (fun h => by have := (isBefore_iff t).mp h; omega)
    ((isLast_iff t).mpr ht) ((isEnd_iff t).mpr ht) x g (stN m c t.val) Set.univ K)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  iapply Hk
  isplitl [HS Hg]
  · isplitl [HS]; · iexact HS
    iexact Hg
  isplitl [H0]; · iexact H0
  isplitl [H1]; · iexact H1
  isplitl [H2]; · iexact H2
  isplitl [H3]; · iexact H3
  iexact H4

theorem value_body (c : Dev nD) :
    Pipeline.BodyObligationLoose (vdat m 0 c) (defs₀ (F := Ideal)) Variants.none () Set.univ := fun t => by
  rw [bigSep_W0, bigSep_W0, row]
  rw [show (vdat m 0 c).owesAt () t.succ = (vdat m 0 c).owesAt () t.castSucc from rfl]
  have hN : t.val < 62 := Nat.lt_of_lt_of_eq t.isLt N_0
  by_cases ht : t.val < 61
  · simp only [idle2 t (by omega), idle3 t (by omega), idle4 t (by omega), unflushed2 t (by omega), unflushed3 t (by omega),
      unflushed4 t (by omega), before2, before3, before4, vdat_before0, vdat_before1]
    iintro ⟨HΦ, Ho, ⟨%d0, H0⟩, ⟨%d1, H1⟩, H2, H3, H4⟩
    rw [fill0_eq m c t ht d0, fill1_eq m c t ht d1]
    iapply (body_early m c t ht _)
    isplitl [HΦ]; · iexact HΦ
    isplitl [H0]; · iexact H0
    isplitl [H1]; · iexact H1
    isplitl [H2]; · iexact H2
    isplitl [H3]; · iexact H3
    isplitl [H4]; · iexact H4
    iintro ⟨HΦ, H0, H1, H2, H3, H4⟩
    isplitl [HΦ]; · iexact HΦ
    isplitl [Ho]; · iexact Ho
    isplitl [H0]
    · iexists d0
      change _ ⊢ owns (c : Thread nD τ) (stg0 t) fullShare (win0_0.fill (grid0.coords t) d0 (win0_0.cut (grid0.coords t) (in0 m c t)))
      rw [cut0, fill0_eq m c t ht d0]
    isplitl [H1]
    · iexists d1
      change _ ⊢ owns (c : Thread nD τ) (stg1 t) fullShare (win0_1.fill (grid0.coords t) d1 (win0_1.cut (grid0.coords t) (in1 m c t)))
      rw [cut1, fill1_eq m c t ht d1]
    isplitl [H2]; · iexact H2
    isplitl [H3]; · iexact H3
    iexact H4
  · have h61 : t.val = 61 := by omega
    simp only [live2 t h61, live3 t h61, live4 t h61, before2, before3, before4, vdat_before0, vdat_before1]
    iintro ⟨HΦ, Ho, ⟨%d0, H0⟩, ⟨%d1, H1⟩, H2, H3, H4⟩
    iapply (body_last m c t h61 (win0_0.fill (grid0.coords t) d0 (iblk m c 0 t)) (win0_1.fill (grid0.coords t) d1 (iblk m c 1 t))
      ((stepTail_agree t _ _ _ _ _ (fill0_in0 m c t d0) (fill1_in1 m c t d1)).trans (stN_tail m c t h61).symm) _)
    isplitl [HΦ]; · iexact HΦ
    isplitl [H0]; · iexact H0
    isplitl [H1]; · iexact H1
    isplitl [H2]; · iexact H2
    isplitl [H3]; · iexact H3
    isplitl [H4]; · iexact H4
    iintro ⟨HΦ, H0, H1, H2, H3, H4⟩
    isplitl [HΦ]; · iexact HΦ
    isplitl [Ho]; · iexact Ho
    isplitl [H0]
    · iexists d0
      change _ ⊢ owns (c : Thread nD τ) (stg0 t) fullShare (win0_0.fill (grid0.coords t) d0 (win0_0.cut (grid0.coords t) (in0 m c t)))
      rw [cut0]
    isplitl [H1]
    · iexists d1
      change _ ⊢ owns (c : Thread nD τ) (stg1 t) fullShare (win0_1.fill (grid0.coords t) d1 (win0_1.cut (grid0.coords t) (in1 m c t)))
      rw [cut1]
    isplitl [H2]; · iexact H2
    isplitl [H3]; · iexact H3
    iexact H4

theorem vdat_A (c : Dev nD) (w : Fin cfg0.W) : (vdat m 0 c).A w = V m c (Pipeline.arrRef spec0 w) := by dsimp only [vdat]

theorem value_in (c : Dev nD) : (Pipeline.ΦA spec0 c : sProp 𝕄) ⊢ (vdat m 0 c).Φ 0 := Idealize.SL.BI.Entails.refl _
theorem value_out (c : Dev nD) : (vdat m 0 c).Φ (Fin.last cfg0.N) ⊢ (Pipeline.ΦA spec0 c : sProp 𝕄) := by
  rw [show (vdat m 0 c).Φ (Fin.last cfg0.N)
    = iprop(holds c scr0 scr1 scr2 scr3 scr4 scr5 (stN m c (Fin.last cfg0.N).val) ∗ ∃ r, prngReg c r) from by
    dsimp only [vdat]; exact if_neg (by show grid0.N ≠ 0; rw [N_0]; decide), scratch_any]
  iintro ⟨HS, Hg⟩
  isplitl [HS]
  · iapply (scratch_split (F := Ideal) c _); iexact HS
  iexact Hg

set_option backward.isDefEq.respectTransparency.types false in
set_option maxHeartbeats 800000 in
theorem value_run : θ_run defs (onTc (τ := τ) (main (F := Ideal))) (s₀ m ρ)
    (Pipeline.FramePost cfgs (vdat m) 0 (Pipeline.afterTail₀ cfgs (vdat m) 0 (V0 m) [hostOps1])) :=
  Pipeline.θ_run_frame_around_track cfgs (vdat m) (0 : Fin 1) launch0 defs₀ Variants.none m ρ main
    (hbody := value_body m) (hshare := fun c => (vdat m 0 c).share_full fun _ => rfl)
    (howed := fun _ _ => rfl) (V₀ := V0 m) (opss := [hostOps1]) (hsub := sfx_sub) (hfresh := sfx_fresh) (hkeep := sfx_keeps)
    (hmain := hmain m Variants.none) (hA := vdat_A m) (hin := value_in m) (hout := value_out m)

/-- The output arrays after the run. -/
theorem out2 (c : Dev nD) : (vdat m 0 c).arrAt 2 cfg0.N = sampOut (stN m c 62) :=
  (vdat m 0 c).arrAt_eq_of_after_last 2 ⟨61, by rw [show cfg0.N = 62 from N_0]; decide⟩ (by decide +kernel) _ fun j => by rfl
theorem out3 (c : Dev nD) : (vdat m 0 c).arrAt 3 cfg0.N = logpOut (stN m c 62) :=
  (vdat m 0 c).arrAt_eq_of_after_last 3 ⟨61, by rw [show cfg0.N = 62 from N_0]; decide⟩ (by decide +kernel) _ fun j => by rfl
theorem out4 (c : Dev nD) : (vdat m 0 c).arrAt 4 cfg0.N = entOut (stN m c 62) :=
  (vdat m 0 c).arrAt_eq_of_after_last 4 ⟨61, by rw [show cfg0.N = 62 from N_0]; decide⟩ (by decide +kernel) _ fun j => by rfl

end Cert.KernelIdeal.Gumbel

end
-- ==== Proof.ValueOut.lean ====
/- What the idealized kernel's results hold: the outputs with their unit axis dropped. -/
module

public import proofs.«01_k».proof.Proof.ValueRun

@[expose] public section

noncomputable section

namespace Cert.KernelIdeal.Gumbel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem tail_v1 (V : Valuation τ sig (Elt Ideal)) :
    StableHlo.after hostOps1 V (Proc.devRef .tc main_v9)
      = shapeCast S32 (V (Proc.devRef .tc main_v8_0) : IVec S32x1 32) shapeCasts_S32x1_S32 := by
  after_results; rfl
theorem tail_v2 (V : Valuation τ sig (Elt Ideal)) :
    StableHlo.after hostOps1 V (Proc.devRef .tc main_v10)
      = shapeCast S32 (V (Proc.devRef .tc main_v8_1) : FVec Ideal S32x1 .f32) shapeCasts_S32x1_S32 := by
  after_results; rfl
theorem tail_v3 (V : Valuation τ sig (Elt Ideal)) :
    StableHlo.after hostOps1 V (Proc.devRef .tc main_v11)
      = shapeCast S32 (V (Proc.devRef .tc main_v8_2) : FVec Ideal S32x1 .f32) shapeCasts_S32x1_S32 := by
  after_results; rfl

/-- The run: the results are the outputs' rows, the arguments stay. -/
theorem kernel_run : θ_run (defs (F := Ideal)) (onTc (τ := τ) (main (F := Ideal))) ⟨m, fun _ => 0, ρ⟩ (fun r => ∀ c : Dev nD,
    r.2.mem ((c.tc : Thread nD τ).loc main_v9) = shapeCast S32 (sampOut (stN m c 62)) shapeCasts_S32x1_S32
    ∧ r.2.mem ((c.tc : Thread nD τ).loc main_v10) = shapeCast S32 (logpOut (stN m c 62)) shapeCasts_S32x1_S32
    ∧ r.2.mem ((c.tc : Thread nD τ).loc main_v11) = shapeCast S32 (entOut (stN m c 62)) shapeCasts_S32x1_S32
    ∧ r.2.mem ((c.tc : Thread nD τ).loc main_arg0) = m ((c.tc : Thread nD τ).loc main_arg0)) := by
  refine (θ_run defs _ _).mono (fun r h c => ?_) (value_run m ρ)
  refine ⟨?_, ?_, ?_, ?_⟩
  · rw [(h c).2 main_v9 (by decide)]
    refine (tail_v1 _).trans (congrArg (fun v => shapeCast S32 v shapeCasts_S32x1_S32) ?_)
    exact (Pipeline.withArrays_arr spec0 winFacts0.arr_inj c _ _ 2).trans (out2 m c)
  · rw [(h c).2 main_v10 (by decide)]
    refine (tail_v2 _).trans (congrArg (fun v => shapeCast S32 v shapeCasts_S32x1_S32) ?_)
    exact (Pipeline.withArrays_arr spec0 winFacts0.arr_inj c _ _ 3).trans (out3 m c)
  · rw [(h c).2 main_v11 (by decide)]
    refine (tail_v3 _).trans (congrArg (fun v => shapeCast S32 v shapeCasts_S32x1_S32) ?_)
    exact (Pipeline.withArrays_arr spec0 winFacts0.arr_inj c _ _ 4).trans (out4 m c)
  · exact (Pipeline.FramePost.in_eq h c 0 rfl).trans ((vdat_A m c 0).trans (V_main_arg0 m c))

end Cert.KernelIdeal.Gumbel

end
-- ==== Proof.RowMath.lean ====
/- The lanes of a row put together, still with no program: column `128 q + l` is position `q` of lane `l`. -/
module

public import proofs.«01_k».proof.Proof.Scalar

@[expose] public section

noncomputable section

namespace Cert.Gumbel

open Idealize.ShloMosaic Finset

/-- `k` is the first of the greatest scores among the first `n`. -/
structure First (y : ℕ → EReal) (n k : ℕ) : Prop where
  lt : k < n
  le : ∀ k' < n, y k' ≤ y k
  first : ∀ k' < k, y k' < y k

theorem exists_first (y : ℕ → EReal) {n : ℕ} (hn : 0 < n) : ∃ k, First y n k := by
  classical
  obtain ⟨k₀, hk₀, hmax⟩ := exists_max_image (range n) y ⟨0, mem_range.mpr hn⟩
  have hex : ∃ k, k < n ∧ y k = y k₀ := ⟨k₀, mem_range.mp hk₀, rfl⟩
  refine ⟨Nat.find hex, (Nat.find_spec hex).1, fun k' hk' => ?_, fun k' hk' => ?_⟩
  · rw [(Nat.find_spec hex).2]; exact hmax k' (mem_range.mpr hk')
  · have hlt : k' < n := lt_trans hk' (Nat.find_spec hex).1
    have hne := Nat.find_min hex hk'
    rw [(Nat.find_spec hex).2]
    exact lt_of_le_of_ne (hmax k' (mem_range.mpr hlt)) fun e => hne ⟨hlt, e⟩

theorem First.sup {y : ℕ → EReal} {n k : ℕ} (h : First y n k) : (range n).sup y = y k :=
  le_antisymm (Finset.sup_le fun k' hk' => h.le k' (mem_range.mp hk')) (le_sup (f := y) (mem_range.mpr h.lt))

theorem sup_fin {n : ℕ} (f : ℕ → EReal) : ((univ : Finset (Fin n)).sup fun k => f k.val) = (range n).sup f :=
  le_antisymm (Finset.sup_le fun k _ => le_sup (f := f) (mem_range.mpr k.isLt))
    (Finset.sup_le fun k hk => le_sup (f := fun k : Fin n => f k.val) (mem_univ ⟨k, mem_range.mp hk⟩))

/-- Columns by lane and position. -/
theorem sup_lanes (f : ℕ → EReal) (W N : ℕ) (hW : 0 < W) :
    ((univ : Finset (Fin W)).sup fun l => (range N).sup fun q => f (W * q + l.val)) = (range (W * N)).sup f := by
  refine le_antisymm (Finset.sup_le fun l _ => Finset.sup_le fun q hq => le_sup (f := f) (mem_range.mpr ?_))
    (Finset.sup_le fun k hk => ?_)
  · have hq' := mem_range.mp hq
    have hl := l.isLt
    calc W * q + l.val < W * q + W := by omega
      _ = W * (q + 1) := by ring
      _ ≤ W * N := Nat.mul_le_mul_left _ hq'
  · have hk' := mem_range.mp hk
    have hq : k / W < N := Nat.div_lt_of_lt_mul hk'
    refine le_trans ?_ (le_sup (f := fun l : Fin W => (range N).sup fun q => f (W * q + l.val)) (mem_univ ⟨k % W, Nat.mod_lt _ hW⟩))
    refine le_trans (le_of_eq ?_) (le_sup (f := fun q => f (W * q + k % W)) (mem_range.mpr hq))
    show f k = f (W * (k / W) + k % W)
    rw [Nat.div_add_mod]

theorem sum_lanes (f : ℕ → ℝ) (W N : ℕ) :
    (∑ l : Fin W, ∑ q ∈ range N, f (W * q + l.val)) = ∑ k ∈ range (W * N), f k := by
  rw [Fin.sum_univ_eq_sum_range (fun l => ∑ q ∈ range N, f (W * q + l)) W, sum_comm]
  induction N with
  | zero => simp
  | succ N ih => rw [sum_range_succ, ih, Nat.mul_succ, sum_range_add]

theorem sup_cut (f : ℕ → EReal) {n N : ℕ} (h : n ≤ N) (hf : ∀ k, n ≤ k → f k = ⊥) : (range N).sup f = (range n).sup f := by
  refine le_antisymm (Finset.sup_le fun k _ => ?_) (Finset.sup_mono (range_subset_range.mpr h))
  by_cases hk : k < n
  · exact le_sup (f := f) (mem_range.mpr hk)
  · rw [hf k (by omega)]; exact bot_le

theorem sum_cut (v : EReal → ℝ) (hv : v ⊥ = 0) (f : ℕ → EReal) {n N : ℕ} (h : n ≤ N) (hf : ∀ k, n ≤ k → f k = ⊥) :
    ∑ k ∈ range N, v (f k) = ∑ k ∈ range n, v (f k) :=
  (sum_subset (range_subset_range.mpr h) fun k _ hk => by
    rw [hf k (by rw [mem_range] at hk; omega), hv]).symm

section Row

variable {x y : ℕ → EReal} {N n : ℕ} {m s t b bx : Fin 128 → EReal} {bi : Fin 128 → BitVec 32}
  (hl : ∀ l, LaneOk (fun q => x (128 * q + l.val)) (fun q => y (128 * q + l.val)) (fun q => BitVec.ofNat 32 (128 * q + l.val)) N
    (m l) (s l) (t l) (b l) (bi l) (bx l))
  (hn : n ≤ 128 * N) (hx : ∀ k, n ≤ k → x k = ⊥) (hy : ∀ k, n ≤ k → y k = ⊥)

include hl hn hx in
theorem row_max : univ.sup m = (range n).sup x := by
  rw [← sup_cut x hn hx, ← sup_lanes x 128 N (by decide)]
  exact sup_congr rfl fun l _ => (hl l).hm

include hl hn hy in
theorem row_best : univ.sup b = (range n).sup y := by
  rw [← sup_cut y hn hy, ← sup_lanes y 128 N (by decide)]
  exact sup_congr rfl fun l _ => (hl l).hb

/-- The lanes' sums brought to the row's maximum. -/
theorem row_sum (v : EReal → ℝ) (hv : v ⊥ = 0) {e : Fin 128 → EReal}
    (hm : ∀ l, m l = (range N).sup fun q => x (128 * q + l.val))
    (he : ∀ l, e l = ((ww (m l) * ∑ q ∈ range N, v (x (128 * q + l.val)) : ℝ) : EReal))
    (hn : n ≤ 128 * N) (hx : ∀ k, n ≤ k → x k = ⊥) (hM : univ.sup m < ⊤) :
    ∑ l, e l * (if m l = ⊥ then (0 : EReal) else Ideal.exp (m l - univ.sup m))
      = ((ww (univ.sup m) * ∑ k ∈ range n, v (x k) : ℝ) : EReal) := by
  rw [← sum_cut v hv x hn hx, ← sum_lanes (fun k => v (x k)) 128 N, mul_sum, ← coe_sum]
  refine sum_congr rfl fun l _ => ?_
  rw [he l, scale_eq (le_sup (f := m) (mem_univ l)) hM]
  refine rescale _ fun h => ?_
  rw [hm l] at h
  exact sum_of_sup_bot _ _ v hv h

include hl hn hx in
theorem row_total (hM : univ.sup m < ⊤) :
    ∑ l, s l * (if m l = ⊥ then (0 : EReal) else Ideal.exp (m l - univ.sup m))
      = ((ww ((range n).sup x) * ∑ k ∈ range n, ee (x k) : ℝ) : EReal) := by
  rw [row_sum ee ee_bot (fun l => (hl l).hm) (fun l => (hl l).hs) hn hx hM, row_max hl hn hx]

include hl hn hx in
theorem row_totalX (hM : univ.sup m < ⊤) :
    ∑ l, t l * (if m l = ⊥ then (0 : EReal) else Ideal.exp (m l - univ.sup m))
      = ((ww ((range n).sup x) * ∑ k ∈ range n, xe (x k) : ℝ) : EReal) := by
  rw [row_sum xe xe_bot (fun l => (hl l).hm) (fun l => (hl l).ht) hn hx hM, row_max hl hn hx]

variable {k : ℕ} (hk : First y n k) (hb : y k ≠ ⊥)

include hl hy hk hb in
/-- A lane with the row's best score holds a column no earlier than the first. -/
theorem lane_best {l : Fin 128} (h : b l = y k) :
    ∃ k', bi l = BitVec.ofNat 32 k' ∧ k ≤ k' ∧ k' < n ∧ k' % 128 = l.val ∧ bx l = x k' := by
  rcases (hl l).hw with h0 | ⟨q, -, hq, hbi, hbx, -⟩
  · exact absurd (h.symm.trans h0) hb
  · have hq' : y (128 * q + l.val) = y k := hq.trans h
    refine ⟨128 * q + l.val, hbi, ?_, ?_, by have := l.isLt; omega, hbx⟩
    · by_contra hlt
      exact absurd hq' (hk.first _ (not_le.mp hlt)).ne
    · by_contra hge
      exact hb (hq'.symm.trans (hy _ (not_lt.mp hge)))

include hl hn hy hk hb in
/-- The first column's lane holds it. -/
theorem lane_first : b ⟨k % 128, Nat.mod_lt _ (by decide)⟩ = y k
    ∧ bi ⟨k % 128, Nat.mod_lt _ (by decide)⟩ = BitVec.ofNat 32 k ∧ bx ⟨k % 128, Nat.mod_lt _ (by decide)⟩ = x k := by
  have hlk := hl ⟨k % 128, Nat.mod_lt _ (by decide)⟩
  have hkq : 128 * (k / 128) + k % 128 = k := Nat.div_add_mod k 128
  have hkN : k / 128 < N := Nat.div_lt_of_lt_mul (lt_of_lt_of_le hk.lt hn)
  have hbk : b ⟨k % 128, Nat.mod_lt _ (by decide)⟩ = y k := by
    refine le_antisymm ?_ ?_
    · rw [← hk.sup, ← row_best hl hn hy]; exact le_sup (f := b) (mem_univ _)
    · rw [hlk.hb]
      refine le_trans (le_of_eq ?_) (le_sup (f := fun q => y (128 * q + k % 128)) (mem_range.mpr hkN))
      show y k = y (128 * (k / 128) + k % 128)
      rw [hkq]
  refine ⟨hbk, ?_⟩
  rcases hlk.hw with h0 | ⟨q, -, hq, hbi, hbx, hfirst⟩
  · exact absurd (hbk.symm.trans h0) hb
  · have hq' : y (128 * q + k % 128) = y k := hq.trans hbk
    have h1 : ¬ (128 * q + k % 128 < k) := fun hlt => absurd hq' (hk.first _ hlt).ne
    have h2 : ¬ (k / 128 < q) := fun hlt => by
      have := hfirst _ hlt
      dsimp only at this
      rw [hkq, hbk] at this
      exact lt_irrefl _ this
    have e : q = k / 128 := by omega
    rw [hbi, hbx, e]
    dsimp only
    rw [hkq]
    exact ⟨rfl, rfl⟩

end Row

/-- The signed minimum of words that are all at least `v`, one of them `v`. -/
theorem fold_min {ι : Type} [DecidableEq ι] (s : Finset ι) (f : ι → BitVec 32) (b v : BitVec 32)
    (hb : v.toInt ≤ b.toInt) (hf : ∀ l ∈ s, v.toInt ≤ (f l).toInt) (hv : ∃ l ∈ s, f l = v) :
    s.fold IntOp.minsi b f = v := by
  have key : ∀ s : Finset ι, (s.fold IntOp.minsi b f = b ∨ ∃ l ∈ s, s.fold IntOp.minsi b f = f l)
      ∧ ∀ l ∈ s, (s.fold IntOp.minsi b f).toInt ≤ (f l).toInt := by
    intro s
    induction s using Finset.induction_on with
    | empty => exact ⟨.inl rfl, by simp⟩
    | insert a s ha ih =>
      rw [fold_insert ha]
      have hm : IntOp.minsi (f a) (s.fold IntOp.minsi b f)
          = if (f a).toInt < (s.fold IntOp.minsi b f).toInt then f a else s.fold IntOp.minsi b f := by
        unfold IntOp.minsi
        rw [BitVec.slt_eq_decide]
        simp only [decide_eq_true_eq]
      rw [hm]
      by_cases h : (f a).toInt < (s.fold IntOp.minsi b f).toInt
      · rw [if_pos h]
        refine ⟨.inr ⟨a, mem_insert_self _ _, rfl⟩, fun l hl => ?_⟩
        rcases mem_insert.mp hl with rfl | hl
        · exact le_refl _
        · exact h.le.trans (ih.2 l hl)
      · rw [if_neg h]
        refine ⟨ih.1.imp_right fun ⟨l, hl, e⟩ => ⟨l, mem_insert_of_mem hl, e⟩, fun l hl => ?_⟩
        rcases mem_insert.mp hl with rfl | hl
        · exact not_lt.mp h
        · exact ih.2 l hl
  obtain ⟨h1, h2⟩ := key s
  obtain ⟨l, hl, rfl⟩ := hv
  apply BitVec.eq_of_toInt_eq
  refine le_antisymm (h2 l hl) ?_
  rcases h1 with h | ⟨l', hl', h⟩
  · rw [h]; exact hb
  · rw [h]; exact hf l' hl'

end Cert.Gumbel

end
-- ==== Proof.KernelMath.lean ====
/- The idealized kernel's outputs row by row: the scratch after the last point holds the lanes' sums and winners of the
   whole row, and the outputs put the lanes together. -/
module

public import proofs.«01_k».proof.Proof.ValueOut
public import proofs.«01_k».proof.Proof.RowMath

@[expose] public section

noncomputable section

namespace Cert.KernelIdeal.Gumbel

open Cert.KernelIdeal Cert.KernelIdeal.Gen Cert.Gumbel Finset
open Idealize.ShloMosaic Idealize.ShloMosaic.TcCoe

/-- Row `r` of a row of results, of a column, and its lanes. -/
def at1 (r : Fin 32) : S32.Idx := fun a => match a with | ⟨0, _⟩ => r
def atc (r : Fin 32) : S32x1.Idx := fun a => match a with | ⟨0, _⟩ => r | ⟨1, _⟩ => (0 : Fin 1)
def lane (r : Fin 32) (l : Fin 128) : S32x128.Idx := fun a => match a with | ⟨0, _⟩ => r | ⟨1, _⟩ => l

theorem lane_eta (i : S32x128.Idx) : lane (i 0) (i 1) = i := by
  funext a; match a with | ⟨0, _⟩ => rfl | ⟨1, _⟩ => rfl

/-! ## Re-shaping and reducing at an index -/

section Shape
variable {α : Type}

theorem up_apply (x : S32.Idx → α) (r : Fin 32) : shapeCast S32x1 x shapeCasts_S32_S32x1 (atc r) = x (at1 r) :=
  shapeCast_apply x _ _ _ (by rw [rowMajor_val1, rowMajor_val2 _ 1 rfl]; show r.val = r.val * 1 + 0; omega)

theorem down_apply (x : S32x1.Idx → α) (r : Fin 32) : shapeCast S32 x shapeCasts_S32x1_S32 (at1 r) = x (atc r) :=
  shapeCast_apply x _ _ _ (by rw [rowMajor_val1, rowMajor_val2 _ 1 rfl]; show r.val * 1 + 0 = r.val; omega)

theorem across_apply (x : S32x1.Idx → α) (r : Fin 32) (l : Fin 128) :
    broadcastTo S32x128 x broadcasts_S32x1_S32x128 (lane r l) = x (atc r) := by
  refine congrArg x (funext fun a => Fin.ext ?_)
  match a with | ⟨0, _⟩ => rfl | ⟨1, _⟩ => rfl

theorem lift_lane (r : Fin 32) (l : Fin 128) : reduces_S32x128_S32.lift (at1 r) l = lane r l := by
  funext a; match a with | ⟨0, _⟩ => rfl | ⟨1, _⟩ => rfl

end Shape

theorem ofBits_ninf : (FloatOps.ofBits .f32 0xFF800000#32 : Ideal .f32) = (⊥ : EReal) := ninf_apply (lane 0 0)

theorem rowMax_apply (v : V32 Ideal) (r : Fin 32) : (rowMax v (atc r) : EReal) = univ.sup fun l => (v (lane r l) : EReal) := by
  refine ((up_apply _ r).trans (Ideal.multiReduction_maximumf_single _ _ _ _ _ _)).trans ?_
  rw [ofBits_ninf]
  refine Eq.trans ?_ (rfl : univ.fold max (⊥ : EReal) (fun l => (v (lane r l) : EReal)) = _)
  exact fold_congr fun l _ => congrArg v (lift_lane r l)

theorem rowSum_apply (v : V32 Ideal) (r : Fin 32) : (rowSum v (atc r) : EReal) = ∑ l, (v (lane r l) : EReal) := by
  refine ((up_apply _ r).trans (Ideal.multiReduction_add_single _ _ _ _ _ _)).trans ?_
  exact sum_congr rfl fun l _ => congrArg v (lift_lane r l)

theorem rowMin_apply (v : IVec S32x128 32) (r : Fin 32) :
    rowMin v (atc r) = univ.fold IntOp.minsi 2147483647#32 fun l => v (lane r l) := by
  refine ((up_apply _ r).trans (multiReductionI_eq_fold _ _ _ _ _ _)).trans ?_
  refine (reduces_S32x128_S32.fold_filter_drop_single _ _ _ _).trans ?_
  exact fold_congr fun l _ => congrArg v (lift_lane r l)

/-! ## The scratch after the points -/

section Row

variable (x g : Vec Ideal S32x1000000 .f32)

/-- Row `r`'s logits and scores by column, minus infinity past the array. -/
def xv (r : Fin 32) (q : ℕ) : EReal := if h : q < 1000000 then x (at2 r ⟨q, h⟩) else ⊥
def yv (r : Fin 32) (q : ℕ) : EReal := if h : q < 1000000 then (x (at2 r ⟨q, h⟩) : EReal) + g (at2 r ⟨q, h⟩) else ⊥

theorem xv_in (r : Fin 32) {q : ℕ} (h : q < 1000000) : xv x r q = x (at2 r ⟨q, h⟩) := dif_pos h
theorem yv_in (r : Fin 32) {q : ℕ} (h : q < 1000000) : yv x g r q = (x (at2 r ⟨q, h⟩) : EReal) + g (at2 r ⟨q, h⟩) := dif_pos h
theorem xv_out (r : Fin 32) (q : ℕ) (h : 1000000 ≤ q) : xv x r q = ⊥ := dif_neg (not_lt.mpr h)
theorem yv_out (r : Fin 32) (q : ℕ) (h : 1000000 ≤ q) : yv x g r q = ⊥ := dif_neg (not_lt.mpr h)

theorem xv_lt_top (hx : ∀ j, (x j : EReal) < ⊤) (r : Fin 32) (q : ℕ) : xv x r q < ⊤ := by
  unfold xv; split
  · exact hx _
  · exact bot_lt_top

end Row

variable (m : (ℓ : Loc nD τ sig) → Buf (Elt Ideal) ℓ)

/-- The logits. -/
abbrev X (c : Dev nD) : Vec Ideal S32x1000000 .f32 := m ((c.tc : Thread nD τ).loc main_arg0)

theorem in0_chunk (c : Dev nD) (t : Fin cfg0.N) {k : ℕ} (hk : k < 128) (r : Fin 32) (l : Fin 128)
    (h : 16384 * t.val + 128 * k + l.val < 1000000) :
    (chunk (in0 m c t) k (lane r l) : EReal) = xv (X m c) r (128 * (128 * t.val + k) + l.val) := by
  obtain ⟨j, h0, h1, e⟩ := chunk_apply (in0 m c t) k hk (lane r l)
  replace h0 : (j 0).val = r.val := h0
  replace h1 : (j 1).val = 128 * k + l.val := h1
  have hj : 16384 * t.val + (j 1).val < 1000000 := by omega
  rw [e, xv_in _ _ (show 128 * (128 * t.val + k) + l.val < 1000000 by omega)]
  refine (fill0_apply m c t _ j hj).trans (congrArg (X m c) (funext fun a => Fin.ext ?_))
  match a with
  | ⟨0, _⟩ => exact h0
  | ⟨1, _⟩ => show 16384 * t.val + (j 1).val = 128 * (128 * t.val + k) + l.val; omega

theorem in1_chunk (c : Dev nD) (t : Fin cfg0.N) {k : ℕ} (hk : k < 128) (r : Fin 32) (l : Fin 128)
    (h : 16384 * t.val + 128 * k + l.val < 1000000) :
    xv (X m c) r (128 * (128 * t.val + k) + l.val) + (chunk (in1 m c t) k (lane r l) : EReal)
      = yv (X m c) (G m c) r (128 * (128 * t.val + k) + l.val) := by
  obtain ⟨j, h0, h1, e⟩ := chunk_apply (in1 m c t) k hk (lane r l)
  replace h0 : (j 0).val = r.val := h0
  replace h1 : (j 1).val = 128 * k + l.val := h1
  have hj : 16384 * t.val + (j 1).val < 1000000 := by omega
  have hq : 128 * (128 * t.val + k) + l.val < 1000000 := by omega
  rw [e, xv_in _ _ hq, yv_in _ _ _ hq]
  congr 1
  refine (fill1_apply m c t _ j hj).trans (congrArg (G m c) (funext fun a => Fin.ext ?_))
  match a with
  | ⟨0, _⟩ => exact h0
  | ⟨1, _⟩ => show 16384 * t.val + (j 1).val = 128 * (128 * t.val + k) + l.val; omega

theorem stN_ok (c : Dev nD) (hx : ∀ j, (X m c j : EReal) < ⊤) (r : Fin 32) (l : Fin 128) : ∀ n ≤ 62,
    StOk (fun q => xv (X m c) r (128 * q + l.val)) (fun q => yv (X m c) (G m c) r (128 * q + l.val))
      (fun q => BitVec.ofNat 32 (128 * q + l.val)) (128 * n) (stN m c n) (lane r l)
  | 0, _ => StOk.init _ _ _ _
  | n + 1, hn => by
    have ih := stN_ok c hx r l n (by omega)
    have hi : l.val < 128 := l.isLt
    have hin : ∀ (t : Fin cfg0.N) (k : ℕ), k < 128 → inside (pt (grid0.coords t)) k (lane r l)
        = if 16384 * t.val + 128 * k + l.val < 1000000 then 1#1 else 0#1 := fun t k hk => inside_apply t k hk _
    have hN : n < cfg0.N := by rw [show cfg0.N = 62 from N_0]; omega
    have hu : ∀ q, xv (X m c) r (128 * q + l.val) < ⊤ := fun q => xv_lt_top _ hx _ _
    have hC : ∀ k < 128, col (pt (grid0.coords ⟨n, hN⟩)) k (lane r l) = BitVec.ofNat 32 (128 * (128 * n + k) + l.val) := fun k _ => by
      exact (col_apply _ _ _).trans (congrArg _ (by show 16384 * n + 128 * k + l.val = _; omega))
    by_cases h : n < 61
    · rw [stN_full m c ⟨n, hN⟩ h, Nat.mul_succ]
      have hlt : ∀ k < 128, 16384 * n + 128 * k + l.val < 1000000 := fun k hk => by omega
      refine StOk.full ih _ hu (fun k hk => in0_chunk m c ⟨n, hN⟩ hk r l (hlt k hk)) (fun k hk => ?_) hC
      rw [in0_chunk m c ⟨n, hN⟩ hk r l (hlt k hk)]
      exact in1_chunk m c ⟨n, hN⟩ hk r l (hlt k hk)
    · have h61 : n = 61 := by omega
      rw [show stN m c (n + 1) = _ from (congrArg (stN m c) (by omega : n + 1 = 62)).trans (stN_tail m c ⟨n, hN⟩ h61), Nat.mul_succ]
      have hX : ∀ k < 128, (masked (pt (grid0.coords ⟨n, hN⟩)) (chunk (in0 m c ⟨n, hN⟩)) k (lane r l) : EReal)
          = xv (X m c) r (128 * (128 * n + k) + l.val) := fun k hk => by
        by_cases hlt : 16384 * n + 128 * k + l.val < 1000000
        · rw [masked_inside _ _ _ _ (by rw [hin _ _ hk, if_pos hlt])]
          exact in0_chunk m c ⟨n, hN⟩ hk r l hlt
        · rw [masked_outside _ _ _ _ (by rw [hin _ _ hk, if_neg hlt]), xv_out _ _ _ (by omega)]
      refine StOk.tail ih _ hu hX (fun k hk => ?_) hC (fun k hk h0 => ?_)
      · rw [hX k hk]
        by_cases hlt : 16384 * n + 128 * k + l.val < 1000000
        · exact in1_chunk m c ⟨n, hN⟩ hk r l hlt
        · rw [xv_out _ _ _ (by omega), yv_out _ _ _ _ (by omega), EReal.bot_add]
      · refine xv_out _ _ _ ?_
        rw [hin _ _ hk] at h0
        by_contra hge
        rw [if_pos (by show 16384 * n + 128 * k + l.val < 1000000; omega)] at h0
        exact absurd h0 (by decide)

/-! ## The outputs of a row -/

section Outputs

variable (c : Dev nD) (hx : ∀ j, (X m c j : EReal) < ⊤) (r : Fin 32)

/-- A row's sums of exponentials and of logits times exponentials. -/
def sumE (x : Vec Ideal S32x1000000 .f32) (r : Fin 32) : ℝ := ∑ q ∈ range 1000000, ee (xv x r q)
def sumXE (x : Vec Ideal S32x1000000 .f32) (r : Fin 32) : ℝ := ∑ q ∈ range 1000000, xe (xv x r q)
/-- A row's greatest logit. -/
def top (x : Vec Ideal S32x1000000 .f32) (r : Fin 32) : EReal := (range 1000000).sup (xv x r)

include hx in
theorem lanes_ok (l : Fin 128) : LaneOk (fun q => xv (X m c) r (128 * q + l.val)) (fun q => yv (X m c) (G m c) r (128 * q + l.val))
    (fun q => BitVec.ofNat 32 (128 * q + l.val)) 7936 ((stN m c 62).m (lane r l)) ((stN m c 62).s (lane r l))
    ((stN m c 62).t (lane r l)) ((stN m c 62).b (lane r l)) ((stN m c 62).bi (lane r l)) ((stN m c 62).bx (lane r l)) :=
  stN_ok m c hx r l 62 le_rfl

include hx in
theorem rowMax_m : (rowMax (stN m c 62).m (atc r) : EReal) = top (X m c) r :=
  (rowMax_apply _ _).trans (row_max (lanes_ok m c hx r) (n := 1000000) (by decide) (xv_out _ r))

include hx in
theorem top_lt : top (X m c) r < ⊤ := sup_lt_top _ _ fun q _ => xv_lt_top _ hx _ _

theorem weight_apply (st : St Ideal) (l : Fin 128) : (weight st (lane r l) : EReal)
    = if (st.m (lane r l) : EReal) = ⊥ then 0 else Ideal.exp ((st.m (lane r l) : EReal) - rowMax st.m (atc r)) := by
  unfold weight
  rw [scale_apply, across_apply]

include hx in
theorem total_eq : (total (stN m c 62) (atc r) : EReal) = ((ww (top (X m c) r) * sumE (X m c) r : ℝ) : EReal) := by
  have h := row_total (lanes_ok m c hx r) (n := 1000000) (by decide) (xv_out _ r)
    (by rw [← rowMax_apply, rowMax_m m c hx r]; exact top_lt m c hx r)
  refine (rowSum_apply _ _).trans (Eq.trans ?_ h)
  refine sum_congr rfl fun l _ => ?_
  show ((stN m c 62).s (lane r l) : EReal) * weight (stN m c 62) (lane r l) = _
  rw [weight_apply, rowMax_apply]

include hx in
theorem totalX_eq : (totalX (stN m c 62) (atc r) : EReal) = ((ww (top (X m c) r) * sumXE (X m c) r : ℝ) : EReal) := by
  have h := row_totalX (lanes_ok m c hx r) (n := 1000000) (by decide) (xv_out _ r)
    (by rw [← rowMax_apply, rowMax_m m c hx r]; exact top_lt m c hx r)
  refine (rowSum_apply _ _).trans (Eq.trans ?_ h)
  refine sum_congr rfl fun l _ => ?_
  show ((stN m c 62).t (lane r l) : EReal) * weight (stN m c 62) (lane r l) = _
  rw [weight_apply, rowMax_apply]

/-! With a column that has a score above minus infinity. -/

variable {k : ℕ} (hk : First (yv (X m c) (G m c) r) 1000000 k) (hb : yv (X m c) (G m c) r k ≠ ⊥)

theorem xv_ne_bot (x g : Vec Ideal S32x1000000 .f32) (r : Fin 32) {k : ℕ} (hb : yv x g r k ≠ ⊥) : xv x r k ≠ ⊥ := by
  by_cases h : k < 1000000
  · intro e
    rw [xv_in _ _ h] at e
    rw [yv_in _ _ _ h, e, EReal.bot_add] at hb
    exact hb rfl
  · exact absurd (yv_out _ _ _ _ (not_lt.mp h)) hb

theorem sumE_pos (x g : Vec Ideal S32x1000000 .f32) (r : Fin 32) {k : ℕ} (hk : k < 1000000) (hb : yv x g r k ≠ ⊥) : 0 < sumE x r :=
  sum_pos' (fun _ _ => ee_nonneg _) ⟨k, mem_range.mpr hk, ee_pos (xv_ne_bot x g r hb)⟩

theorem top_ne_bot (x g : Vec Ideal S32x1000000 .f32) (r : Fin 32) {k : ℕ} (hk : k < 1000000) (hb : yv x g r k ≠ ⊥) : top x r ≠ ⊥ :=
  fun h => xv_ne_bot x g r hb ((Finset.sup_eq_bot_iff _ _).mp h k (mem_range.mpr hk))

include hx hk hb in
theorem logz_apply : (logz (stN m c 62) (atc r) : EReal) = ((Real.log (sumE (X m c) r) : ℝ) : EReal) := by
  show (rowMax (stN m c 62).m (atc r) : EReal) + Ideal.log (total (stN m c 62) (atc r)) = _
  rw [rowMax_m m c hx r, total_eq m c hx r]
  exact logz_eq (top_ne_bot _ _ r hk.lt hb) (top_lt m c hx r) (sumE_pos _ _ r hk.lt hb)

include hx hk hb in
theorem entOut_apply : (entOut (stN m c 62) (atc r) : EReal)
    = ((Real.log (sumE (X m c) r) - sumXE (X m c) r / sumE (X m c) r : ℝ) : EReal) := by
  show (logz (stN m c 62) (atc r) : EReal) - Ideal.div (totalX (stN m c 62) (atc r)) (total (stN m c 62) (atc r)) = _
  rw [logz_apply m c hx r hk hb, total_eq m c hx r, totalX_eq m c hx r,
    div_eq (top_ne_bot _ _ r hk.lt hb) (sumE_pos _ _ r hk.lt hb), ← EReal.coe_sub]

include hx hk in
theorem rowMax_b : (rowMax (stN m c 62).b (atc r) : EReal) = yv (X m c) (G m c) r k :=
  ((rowMax_apply _ _).trans (row_best (lanes_ok m c hx r) (n := 1000000) (by decide) (yv_out _ _ r))).trans hk.sup

theorem best_lane (st : St Ideal) (r : Fin 32) (l : Fin 128) :
    best st (lane r l) = BitVec.ofBool (decide ((st.b (lane r l) : EReal) = rowMax st.b (atc r))) := by
  rw [← across_apply (rowMax st.b) r l]
  show Ideal.cmp .oeq _ _ = _
  unfold Ideal.cmp
  congr

include hx hk in
theorem best_apply (l : Fin 128) : best (stN m c 62) (lane r l)
    = BitVec.ofBool (decide (((stN m c 62).b (lane r l) : EReal) = yv (X m c) (G m c) r k)) := by
  rw [← rowMax_b m c hx r hk]
  exact best_lane _ r l

theorem ofNat_toInt {q : ℕ} (h : q < 1000000) : (BitVec.ofNat 32 q).toInt = q := by
  rw [BitVec.toInt_eq_toNat_of_lt (by simp only [BitVec.toNat_ofNat]; omega), BitVec.toNat_ofNat, Nat.mod_eq_of_lt (by omega)]

theorem ofNat_inj {q q' : ℕ} (h : q < 1000000) (h' : q' < 1000000) (e : BitVec.ofNat 32 q = BitVec.ofNat 32 q') : q = q' := by
  have := congrArg BitVec.toInt e
  rw [ofNat_toInt h, ofNat_toInt h'] at this
  exact_mod_cast this

include hx hk hb in
theorem sampOut_apply : sampOut (stN m c 62) (atc r) = BitVec.ofNat 32 k := by
  have hlt := hk.lt
  refine (rowMin_apply _ _).trans (fold_min _ _ _ _ ?_ (fun l _ => ?_) ⟨⟨k % 128, Nat.mod_lt _ (by decide)⟩, mem_univ _, ?_⟩)
  · rw [ofNat_toInt hlt, show (2147483647#32 : BitVec 32).toInt = 2147483647 from rfl]; omega
  · show _ ≤ (Scalar.select (best (stN m c 62) (lane r l)) ((stN m c 62).bi (lane r l)) 2147483647#32).toInt
    rw [best_apply m c hx r hk, select_dec, ofNat_toInt hlt]
    split
    · next h =>
      obtain ⟨k', hbi, hle, hlt', -, -⟩ := lane_best (lanes_ok m c hx r) (yv_out _ _ r) hk hb h
      rw [hbi, ofNat_toInt hlt']; omega
    · rw [show (2147483647#32 : BitVec 32).toInt = 2147483647 from rfl]; omega
  · show Scalar.select (best (stN m c 62) (lane r _)) ((stN m c 62).bi (lane r _)) 2147483647#32 = _
    obtain ⟨h1, h2, -⟩ := lane_first (lanes_ok m c hx r) (n := 1000000) (by decide) (yv_out _ _ r) hk hb
    rw [best_apply m c hx r hk, select_dec, if_pos h1, h2]

include hx hk hb in
theorem hit_apply (l : Fin 128) : hit (stN m c 62) (lane r l) = BitVec.ofBool (decide (l.val = k % 128)) := by
  show best (stN m c 62) (lane r l) &&& BitVec.ofBool ((stN m c 62).bi (lane r l)
    == broadcastTo S32x128 (sampOut (stN m c 62)) broadcasts_S32x1_S32x128 (lane r l)) = _
  rw [across_apply, sampOut_apply m c hx r hk hb, best_apply m c hx r hk]
  by_cases h : l.val = k % 128
  · obtain rfl : l = ⟨k % 128, Nat.mod_lt _ (by decide)⟩ := Fin.ext h
    obtain ⟨h1, h2, -⟩ := lane_first (lanes_ok m c hx r) (n := 1000000) (by decide) (yv_out _ _ r) hk hb
    rw [decide_eq_true h1, h2, decide_eq_true h]; simp
  · rw [decide_eq_false h]
    by_cases hbl : ((stN m c 62).b (lane r l) : EReal) = yv (X m c) (G m c) r k
    · obtain ⟨k', hbi, hle, hlt', hmod, -⟩ := lane_best (lanes_ok m c hx r) (yv_out _ _ r) hk hb hbl
      have hne : ((stN m c 62).bi (lane r l) == BitVec.ofNat 32 k) = false := by
        rw [beq_eq_false_iff_ne, hbi]
        intro e
        have := ofNat_inj hlt' hk.lt e
        omega
      rw [hne]; simp
    · rw [decide_eq_false hbl]; simp

include hx hk hb in
theorem logpOut_apply : (logpOut (stN m c 62) (atc r) : EReal)
    = xv (X m c) r k - ((Real.log (sumE (X m c) r) : ℝ) : EReal) := by
  show (rowSum (select (hit (stN m c 62)) (stN m c 62).bx zero) (atc r) : EReal) - (logz (stN m c 62) (atc r) : EReal) = _
  rw [logz_apply m c hx r hk hb]
  congr 1
  refine (rowSum_apply _ _).trans ((sum_eq_single ⟨k % 128, Nat.mod_lt _ (by decide)⟩ (fun l _ hl => ?_) fun h => absurd (mem_univ _) h).trans ?_)
  · show (Scalar.select (hit (stN m c 62) (lane r l)) ((stN m c 62).bx (lane r l)) ((zero : V32 Ideal) (lane r l)) : EReal) = _
    rw [hit_apply m c hx r hk hb, select_dec, if_neg fun e => hl (Fin.ext e), zero_apply]
  · show (Scalar.select (hit (stN m c 62) (lane r _)) ((stN m c 62).bx (lane r _)) ((zero : V32 Ideal) (lane r _)) : EReal) = _
    rw [hit_apply m c hx r hk hb, select_dec, if_pos rfl]
    exact (lane_first (lanes_ok m c hx r) (n := 1000000) (by decide) (yv_out _ _ r) hk hb).2.2

end Outputs

end Cert.KernelIdeal.Gumbel

end
-- ==== Proof.RefOps.lean ====
/- The reference's operations, in order, in three stretches: the log probabilities, the entropies and the key, the
   noise, and what reads it. -/
module

public import proofs.«01_k».proof.Proof.Gen.ReferenceIdeal
public import proofs.«01_k».proof.Defs
public import Idealize.ShloMosaic.Lib.Claim

@[expose] public section

noncomputable section

namespace Cert.ReferenceIdeal.Gumbel

open Cert.ReferenceIdeal
open Idealize.ShloMosaic Idealize.ShloMosaic.TcCoe Idealize.SL.Sem

variable [hR : Cert.ReferenceIdeal.Facts]

set_option maxRecDepth 100000 in
set_option maxHeartbeats 2000000 in
/-- The operations with the proof that they are the program. -/
def line : {ops : List (HloOp τ sig (Elt Ideal)) // ∀ d : Dev nD, StableHlo.IsSeq (main (F := Ideal) d) ops} :=
  by apply Subtype.mk; hlo_seq

/-- The stretches. -/
def opsA : List (HloOp τ sig (Elt Ideal)) := line.1.take 28
def opsN : List (HloOp τ sig (Elt Ideal)) := (line.1.drop 28).take 267
def opsB : List (HloOp τ sig (Elt Ideal)) := line.1.drop 295

theorem line_eq : line.1 = opsA ++ (opsN ++ opsB) := by
  unfold opsA opsN opsB
  rw [← List.drop_drop (i := 267) (j := 28), List.take_append_drop, List.take_append_drop]

end Cert.ReferenceIdeal.Gumbel

end
-- ==== Proof.Sim.lean ====
/- Two lines of host operations, over different buffers, that apply the same functions in the same order: what one leaves
   at a buffer is what the other leaves at the matching buffer. The lines are compared one operation at a time, so that no
   term of more than one operation is ever formed. -/
module

public import Idealize.ShloMosaic.Lib.StableHlo.Run

@[expose] public section

noncomputable section

namespace Cert.Gumbel.Sim

open Idealize.ShloMosaic

variable {τ τ' : Topo} {sig sig' : RefSig} {Val : EltTy → Type}

/-- Matching buffers hold the same array. -/
def Same (V : Valuation τ sig Val) (V' : Valuation τ' sig' Val) (l : Ref sig .tc × Ref sig' .tc) : Prop :=
  HEq (V (Proc.devRef .tc l.1)) (V' (Proc.devRef .tc l.2))

/-- Two buffers in the same space with the same index are one. -/
theorem ref_eq {κ : Kind} {x y : Ref sig κ} (hs : x.space = y.space) (hi : x.idx.val = y.idx.val) : x = y := by
  cases x with | mk s i h => cases y with | mk s' i' h' => cases hs; cases Fin.ext hi; rfl

/-- Two buffers match: both in HBM, the first between `lo` and `n`, the second `d` after it. -/
def Pair (lo d n : ℕ) (x : Ref sig .tc) (x' : Ref sig' .tc) : Prop :=
  x.space = .hbm ∧ x'.space = .hbm ∧ lo ≤ x.idx.val ∧ x.idx.val < n ∧ x'.idx.val = x.idx.val + d

/-- From contents that agree at the matching buffers below `n`, the two lines leave contents that agree at `l`. -/
def Sim (lo d n : ℕ) (ops : List (HloOp τ sig Val)) (ops' : List (HloOp τ' sig' Val)) (l : Ref sig .tc × Ref sig' .tc) : Prop :=
  ∀ V V', (∀ x x', Pair lo d n x x' → Same V V' (x, x')) → Same (StableHlo.after ops V) (StableHlo.after ops' V') l

/-- The buffers the next two operations write. -/
def Next (d n : ℕ) (y : Ref sig .tc) (y' : Ref sig' .tc) : Prop :=
  y.space = .hbm ∧ y'.space = .hbm ∧ y.idx.val = n ∧ y'.idx.val = n + d

variable {lo d n : ℕ} {ops : List (HloOp τ sig Val)} {ops' : List (HloOp τ' sig' Val)} {l : Ref sig .tc × Ref sig' .tc}

theorem nil (h : Pair lo d n l.1 l.2) : Sim (τ := τ) (τ' := τ') (Val := Val) lo d n [] [] l := fun _ _ hP => hP _ _ h

/-- One operation of each line, writing the next buffers. -/
theorem cons {y : Ref sig .tc} {y' : Ref sig' .tc} {op : HloOp τ sig Val} {op' : HloOp τ' sig' Val}
    (hw : op.writes = {Proc.devRef .tc y}) (hw' : op'.writes = {Proc.devRef .tc y'})
    (hr : ∀ V V', (∀ x x', Pair lo d n x x' → Same V V' (x, x')) → Same (op.result V) (op'.result V') (y, y'))
    (hy : Next d n y y') (h : Sim lo d (y.idx.val + 1) ops ops' l) : Sim lo d n (op :: ops) (op' :: ops') l := by
  intro V V' hP
  obtain ⟨s, s', k, k'⟩ := hy
  rw [StableHlo.after_cons, StableHlo.after_cons]
  refine h _ _ fun x x' hx => ?_
  obtain ⟨t, t', h1, h2, h3⟩ := hx
  by_cases he : x.idx.val = n
  · obtain rfl : x = y := ref_eq (t.trans s.symm) (he.trans k.symm)
    obtain rfl : x' = y' := ref_eq (t'.trans s'.symm) (by omega)
    exact hr V V' hP
  · have e1 := StableHlo.result_of_writes_ne op V y x hw (fun e => he (e ▸ k))
    have e2 := StableHlo.result_of_writes_ne op' V' y' x' hw' (fun e => he (by subst e; omega))
    unfold Same
    rw [e1, e2]
    exact hP x x' ⟨t, t', h1, by omega, h3⟩

open StableHlo (TRef)

variable {T A B C : BufTy}

theorem toBuf_heq (y : TRef sig T) (v : T.Contents Val) : y.toBuf v ≍ v := cast_heq _ _

theorem ofBuf_eq {x : TRef sig T} {x' : TRef sig' T} {u : x.ref.ty.Contents Val} {u' : x'.ref.ty.Contents Val} (h : u ≍ u') :
    x.ofBuf u = x'.ofBuf u' :=
  eq_of_heq (((cast_heq _ u).trans h).trans (cast_heq _ u').symm)

theorem toBuf_eq (y : TRef sig T) (y' : TRef sig' T) {v v' : T.Contents Val} (h : v = v') : y.toBuf v ≍ y'.toBuf v' :=
  (toBuf_heq y v).trans ((heq_of_eq h).trans (toBuf_heq y' v').symm)

theorem nullary {y : TRef sig T} {y' : TRef sig' T} {v v' : T.Contents Val}
    (hv : v = v') (hy : Next d n y.ref y'.ref) (h : Sim lo d (y.ref.idx.val + 1) ops ops' l) :
    Sim lo d n (TRef.nullary y v :: ops) (TRef.nullary y' v' :: ops') l :=
  cons rfl rfl (fun V V' _ => by
    unfold Same; rw [StableHlo.nullary_result, StableHlo.nullary_result]; exact toBuf_eq y y' hv) hy h

theorem unary {x : TRef sig A} {x' : TRef sig' A} {y : TRef sig T} {y' : TRef sig' T} {f f' : A.Contents Val → T.Contents Val}
    (hf : f = f') (mx : Pair lo d n x.ref x'.ref) (hy : Next d n y.ref y'.ref) (h : Sim lo d (y.ref.idx.val + 1) ops ops' l) :
    Sim lo d n (TRef.unary x y f :: ops) (TRef.unary x' y' f' :: ops') l :=
  cons rfl rfl (fun V V' hV => by
    unfold Same; rw [StableHlo.unary_result, StableHlo.unary_result]
    exact toBuf_eq y y' (hf ▸ congrArg f (ofBuf_eq (hV _ _ mx)))) hy h

theorem binary {a : TRef sig A} {a' : TRef sig' A} {b : TRef sig B} {b' : TRef sig' B} {y : TRef sig T} {y' : TRef sig' T}
    {f f' : A.Contents Val → B.Contents Val → T.Contents Val} (hf : f = f') (ma : Pair lo d n a.ref a'.ref) (mb : Pair lo d n b.ref b'.ref)
    (hy : Next d n y.ref y'.ref) (h : Sim lo d (y.ref.idx.val + 1) ops ops' l) :
    Sim lo d n (TRef.binary a b y f :: ops) (TRef.binary a' b' y' f' :: ops') l :=
  cons rfl rfl (fun V V' hV => by
    unfold Same; rw [StableHlo.binary_result, StableHlo.binary_result]
    exact toBuf_eq y y' (hf ▸ congrArg₂ f (ofBuf_eq (hV _ _ ma)) (ofBuf_eq (hV _ _ mb)))) hy h

theorem reshaped {R R' U U' : BufTy} (hR : R = R') (hU : U = U') (he : R.elt = U.elt) (he' : R'.elt = U'.elt)
    (hn : R.shape.ShapeCasts U.shape) (hn' : R'.shape.ShapeCasts U'.shape) {u : R.Contents Val} {u' : R'.Contents Val} (hu : u ≍ u') :
    (fun i => he ▸ shapeCast U.shape u hn i : U.Contents Val) ≍ (fun i => he' ▸ shapeCast U'.shape u' hn' i : U'.Contents Val) := by
  subst hR hU; cases hu; rfl

theorem reshape {x : TRef sig A} {x' : TRef sig' A} {y : TRef sig T} {y' : TRef sig' T} {he he' : A.elt = T.elt}
    {hn hn' : A.shape.ShapeCasts T.shape} (mx : Pair lo d n x.ref x'.ref) (hy : Next d n y.ref y'.ref)
    (h : Sim lo d (y.ref.idx.val + 1) ops ops' l) :
    Sim lo d n (TRef.reshape x y he hn :: ops) (TRef.reshape x' y' he' hn' :: ops') l :=
  cons rfl rfl (fun V V' hV => by
    unfold Same; rw [StableHlo.reshape_result, StableHlo.reshape_result]
    exact reshaped (x.ty_eq.trans x'.ty_eq.symm) (y.ty_eq.trans y'.ty_eq.symm) _ _ _ _ (hV _ _ mx)) hy h

end Cert.Gumbel.Sim

end
-- ==== Proof.Above.lean ====
/- A line of host operations that writes only buffers from a given index on leaves the buffers before it alone. -/
module

public import Idealize.ShloMosaic.Lib.Claim
public import proofs.«01_k».proof.Proof.Sim

@[expose] public section

namespace Cert.Gumbel

open Idealize.ShloMosaic

variable {τ : Topo} {sig : RefSig} {Val : EltTy → Type}

/-- Every operation writes one buffer, of index at least `n`. -/
def Above (n : ℕ) (ops : List (HloOp τ sig Val)) : Prop :=
  ∀ op ∈ ops, ∃ y : Ref sig .tc, op.writes = {Proc.devRef .tc y} ∧ n ≤ y.idx.val

theorem Above.nil (n : ℕ) : Above (τ := τ) (sig := sig) (Val := Val) n [] := fun _ h => nomatch h

theorem Above.cons {n : ℕ} {op : HloOp τ sig Val} {ops : List (HloOp τ sig Val)} {y : Ref sig .tc}
    (hw : op.writes = {Proc.devRef .tc y}) (hy : Nat.ble n y.idx.val = true) (h : Above n ops) : Above n (op :: ops) := by
  intro o ho
  rcases List.mem_cons.mp ho with rfl | ho
  · exact ⟨y, hw, Nat.le_of_ble_eq_true hy⟩
  · exact h o ho

open StableHlo (TRef)

variable {n : ℕ} {ops : List (HloOp τ sig Val)} {T A B : BufTy}

theorem Above.nullary {y : TRef sig T} {v : T.Contents Val} (hy : Nat.ble n y.ref.idx.val = true) (h : Above n ops) :
    Above n (TRef.nullary y v :: ops) := Above.cons (y := y.ref) rfl hy h
theorem Above.unary {x : TRef sig A} {y : TRef sig T} {f : A.Contents Val → T.Contents Val} (hy : Nat.ble n y.ref.idx.val = true)
    (h : Above n ops) : Above n (TRef.unary x y f :: ops) := Above.cons (y := y.ref) rfl hy h
theorem Above.binary {a : TRef sig A} {b : TRef sig B} {y : TRef sig T} {f : A.Contents Val → B.Contents Val → T.Contents Val}
    (hy : Nat.ble n y.ref.idx.val = true) (h : Above n ops) : Above n (TRef.binary a b y f :: ops) := Above.cons (y := y.ref) rfl hy h
theorem Above.reshape {x : TRef sig A} {y : TRef sig T} {he : A.elt = T.elt} {hn : A.shape.ShapeCasts T.shape}
    (hy : Nat.ble n y.ref.idx.val = true) (h : Above n ops) : Above n (TRef.reshape x y he hn :: ops) := Above.cons (y := y.ref) rfl hy h

theorem Above.keeps (h : Above n ops) (b : Ref sig .tc) (hb : b.idx.val < n)
    (V : Valuation τ sig Val) : StableHlo.after ops V (Proc.devRef .tc b) = V (Proc.devRef .tc b) := by
  refine StableHlo.after_of_forall_not_mem _ _ fun op hop => ?_
  obtain ⟨y, hw, hy⟩ := h op hop
  rw [hw, Finset.mem_singleton]
  exact StableHlo.devRef_ne_of_ne fun e => by subst e; omega

end Cert.Gumbel
-- ==== Proof.RefKeep.lean ====
/- What the operations of the noise write. -/
module

public import proofs.«01_k».proof.Proof.RefOps
public import proofs.«01_k».proof.Proof.Above

@[expose] public section

noncomputable section

namespace Cert.ReferenceIdeal.Gumbel

open Cert.ReferenceIdeal
open Idealize.ShloMosaic Idealize.ShloMosaic.TcCoe Idealize.SL.Sem

variable [hR : Cert.ReferenceIdeal.Facts]

set_option maxRecDepth 100000 in
set_option maxHeartbeats 2000000 in
/-- The noise's operations write past the key. -/
theorem opsN_above : Cert.Gumbel.Above 29 opsN := by
  simp only [opsN, line, List.drop_succ_cons, List.drop_zero, List.take_succ_cons, List.take_zero]
  iterate 267 (first
    | with_reducible refine Cert.Gumbel.Above.nullary ?_ ?_
      · rfl
    | with_reducible refine Cert.Gumbel.Above.unary ?_ ?_
      · rfl
    | with_reducible refine Cert.Gumbel.Above.binary ?_ ?_
      · rfl
    | with_reducible refine Cert.Gumbel.Above.reshape ?_ ?_
      · rfl)
  exact Cert.Gumbel.Above.nil _

end Cert.ReferenceIdeal.Gumbel

end
-- ==== Proof.RefSide.lean ====
/- The side conditions of running the reference: its operations stay among the device's arrays and make none. -/
module

public import proofs.«01_k».proof.Proof.RefOps
public import proofs.«01_k».proof.Proof.Above

@[expose] public section

noncomputable section

namespace Cert.ReferenceIdeal.Gumbel

open Cert.ReferenceIdeal
open Idealize.ShloMosaic Idealize.ShloMosaic.TcCoe Idealize.SL.Sem

variable [hR : Cert.ReferenceIdeal.Facts]

set_option maxRecDepth 100000 in
set_option maxHeartbeats 2000000 in
theorem line_bufs : line.1.Forall fun op => op.bufs ⊆ StableHlo.tcRefs τ sig := by
  refine List.forall_iff_forall_mem.mpr ?_
  simp only [line]
  repeat (refine List.forall_mem_cons.mpr ⟨by first
    | with_reducible exact StableHlo.nullary_bufs_sub .. | with_reducible exact StableHlo.unary_bufs_sub .. | with_reducible exact StableHlo.binary_bufs_sub ..
    | with_reducible exact StableHlo.reshape_bufs_sub .. | with_reducible exact StableHlo.ternary_bufs_sub .. | with_reducible exact StableHlo.quaternary_bufs_sub .., ?_⟩)
  exact List.forall_mem_nil _

set_option maxRecDepth 100000 in
set_option maxHeartbeats 2000000 in
theorem line_fresh : ∀ op ∈ line.1, op.fresh = ∅ := by
  simp only [line]
  repeat (refine List.forall_mem_cons.mpr ⟨rfl, ?_⟩)
  exact List.forall_mem_nil _

end Cert.ReferenceIdeal.Gumbel

end
-- ==== Proof.RefRun.lean ====
/- The reference is host operations only: it runs to its composed terms and leaves its arguments and counters alone. -/
module

public import proofs.«01_k».proof.Proof.RefOps
public import proofs.«01_k».proof.Proof.RefKeep
public import proofs.«01_k».proof.Proof.RefSide
public import Idealize.ShloMosaic.Lib.Pipeline.Frame
public import proofs.«01_k».proof.Defs
public import Idealize.ShloMosaic.Lib.Claim
public import Idealize.ShloMosaic.Lib.Quiescent

@[expose] public section

noncomputable section

namespace Cert.ReferenceIdeal.Gumbel

open Cert.ReferenceIdeal Cert.ReferenceIdeal.Facts₀
open Idealize.ShloMosaic Idealize.ShloMosaic.TcCoe Idealize.SL.Sem

variable [hR : Cert.ReferenceIdeal.Facts]

/-- The arrays of the reference: logits and noise, a column, a row of results. -/
abbrev Wide : Type := FVec Ideal S32x1000000 .f32
abbrev Tall : Type := FVec Ideal S32x1 .f32
abbrev Flat : Type := FVec Ideal S32 .f32

/-- The rows' maxima. -/
def rmax (x : Wide) : Tall :=
  broadcastInDim S32x1 ![0] bcast_S32_S32x1_0
    (Host.reduce FloatOps.maximumf x (constant S_ .f32 0xFF800000#32) reducesTo_S32x1000000_S32_d1 h_S_ : Flat)
/-- A column against every column. -/
def wide (v : Tall) : Wide := broadcastInDim S32x1000000 ![0, 1] bcast_S32x1_S32x1000000_0_1 v
/-- The rows' sums. -/
def rsum (v : Wide) : Flat := Host.reduceAdd v (constant S_ .f32 0x00000000#32) reducesTo_S32x1000000_S32_d1 h_S_
/-- The rows' log normalisers. -/
def rlse (x : Wide) : Tall :=
  addf (rmax x) (Host.log (broadcastInDim S32x1 ![0] bcast_S32_S32x1_0 (rsum (Host.exp (subf x (wide (rmax x)))))))
/-- The log probabilities. -/
def rlp (x : Wide) : Wide := subf x (wide (rlse x))
/-- The entropies. -/
def rent (x : Wide) : Flat := Host.negf (rsum (mulf (Host.exp (rlp x)) (rlp x)))
/-- The sampled columns. -/
def rsamp (x g : Wide) : IVec S32 32 := fun j =>
  (Host.argReduce reducer_argmax_f32_i32 (addf g x) (iotaInDim S32x1000000 32 1) (constant S_ .f32 0xFF800000#32)
    (constantI S_ 32 0#32) reducesTo_S32x1000000_S32_d1 h_S_ j).2
/-- The sampled columns as the gather's indices. -/
def rix (s : IVec S32 32) : IVec S32x1x1 32 :=
  let t : IVec S32x1 32 := broadcastInDim S32x1 ![0] bcast_S32_S32x1_0 s
  shapeCast S32x1x1 (select (cmpi .slt t (broadcastInDim S32x1 ![] bcast_S_S32x1 (constantI S_ 32 0#32)))
    (addi t (broadcastInDim S32x1 ![] bcast_S_S32x1 (constantI S_ 32 1000000#32))) t) shapeCasts_S32x1_S32x1x1
/-- Which of them lie inside the row. -/
def rok (i : IVec S32x1x1 32) : IVec S32x1 1 :=
  Host.reduce IntOp.andi
    (andi (cmpi .sge i (broadcastInDim S32x1x1 ![] bcast_S_S32x1x1 (constantI S_ 32 0#32)))
      (cmpi .sle i (broadcastInDim S32x1x1 ![0, 1, 2] bcast_S1x1x1_S32x1x1_0_1_2
        (broadcastInDim S1x1x1 ![2] bcast_S1_S1x1x1_2 (constantI S1 32 999999#32)))))
    (constantI S_ 1 1#1) reducesTo_S32x1x1_S32x1_d2 h_S_
/-- The log probability of the sampled column. -/
def rlogp (x g : Wide) : Flat :=
  shapeCast S32 (select (rok (rix (rsamp x g))) (Host.gather gather_S32x1000000_S32x1x1_S32x1_n_1_0_0_1_2_11 (rlp x) (rix (rsamp x g)))
    (broadcastInDim S32x1 ![] bcast_S_S32x1 (constant S_ .f32 0x7FC00000#32 : FVec Ideal S_ .f32))) shapeCasts_S32x1_S32

/-! ## The three stretches, from any contents -/

section Stretch

variable (V : Valuation τ sig (Elt Ideal))

theorem A_arg0 : StableHlo.after opsA V (Proc.devRef .tc main_arg0) = V (Proc.devRef .tc main_arg0) := by
  simp only [opsA, line, List.take_succ_cons, List.take_zero]
  after_results

theorem A_v10 : StableHlo.after opsA V (Proc.devRef .tc main_v10) = rlp (V (Proc.devRef .tc main_arg0)) := by
  simp only [opsA, line, List.take_succ_cons, List.take_zero]
  after_results; rfl

theorem A_v14 : StableHlo.after opsA V (Proc.devRef .tc main_v14) = rent (V (Proc.devRef .tc main_arg0)) := by
  simp only [opsA, line, List.take_succ_cons, List.take_zero]
  after_results; rfl

set_option maxHeartbeats 1000000 in
theorem B_v24 : StableHlo.after opsB V (Proc.devRef .tc main_v24)
    = rsamp (V (Proc.devRef .tc main_arg0)) (V (Proc.devRef .tc main_v22)) := by
  simp only [opsB, line, List.drop_succ_cons, List.drop_zero]
  after_results
  all_goals try simp -implicitDefEqProofs only [StableHlo.TRef.toBuf, StableHlo.TRef.ofBuf, cast_cast, cast_eq]
  all_goals rfl

set_option maxHeartbeats 1000000 in
theorem B_v27 (h : V (Proc.devRef .tc main_v10) = rlp (V (Proc.devRef .tc main_arg0))) :
    StableHlo.after opsB V (Proc.devRef .tc main_v27) = rlogp (V (Proc.devRef .tc main_arg0)) (V (Proc.devRef .tc main_v22)) := by
  simp only [opsB, line, List.drop_succ_cons, List.drop_zero]
  after_results
  all_goals try simp -implicitDefEqProofs only [StableHlo.TRef.toBuf, StableHlo.TRef.ofBuf, cast_cast, cast_eq]
  rw [h]
  unfold rlogp rix rok; rfl

theorem B_arg0 : StableHlo.after opsB V (Proc.devRef .tc main_arg0) = V (Proc.devRef .tc main_arg0) := by
  simp only [opsB, line, List.drop_succ_cons, List.drop_zero]
  after_results

theorem B_v14 : StableHlo.after opsB V (Proc.devRef .tc main_v14) = V (Proc.devRef .tc main_v14) := by
  simp only [opsB, line, List.drop_succ_cons, List.drop_zero]
  after_results

end Stretch

section Run

variable (m : (ℓ : Loc nD τ sig) → Buf (Elt Ideal) ℓ)

/-- What the operations before the noise leave, and the noise drawn from it. -/
def VA (c : Dev nD) : Valuation τ sig (Elt Ideal) := StableHlo.after opsA (StableHlo.launchContents m c)
def RG (c : Dev nD) : Wide := StableHlo.after opsN (VA m c) (Proc.devRef .tc main_v22)
/-- The logits. -/
abbrev RX (c : Dev nD) : Wide := m ((c.tc : Thread nD τ).loc main_arg0)

theorem VA_arg0 (c : Dev nD) : VA m c (Proc.devRef .tc main_arg0) = RX m c := A_arg0 _
theorem VN_arg0 (c : Dev nD) : StableHlo.after opsN (VA m c) (Proc.devRef .tc main_arg0) = RX m c :=
  (opsN_above.keeps main_arg0 (by decide) _).trans (VA_arg0 m c)
theorem VN_v10 (c : Dev nD) : StableHlo.after opsN (VA m c) (Proc.devRef .tc main_v10) = rlp (RX m c) :=
  (opsN_above.keeps main_v10 (by decide) _).trans (A_v10 _)
theorem VN_v14 (c : Dev nD) : StableHlo.after opsN (VA m c) (Proc.devRef .tc main_v14) = rent (RX m c) :=
  (opsN_above.keeps main_v14 (by decide) _).trans (A_v14 _)

theorem after_line (c : Dev nD) (b : DevRef τ sig) :
    StableHlo.after line.1 (StableHlo.launchContents m c) b = StableHlo.after opsB (StableHlo.after opsN (VA m c)) b := by
  rw [line_eq, StableHlo.after_append, StableHlo.after_append]; rfl

/-- The run: the results are the terms above at the logits and the noise drawn, the argument stays. -/
theorem ref_run (g : Dev nD → PrngReg) :
    θ_run (defs (F := Ideal)) (onTc (τ := τ) (main (F := Ideal))) ⟨m, fun _ => 0, g⟩ (fun r => ∀ c : Dev nD,
      r.2.mem ((c.tc : Thread nD τ).loc main_v24) = rsamp (RX m c) (RG m c)
      ∧ r.2.mem ((c.tc : Thread nD τ).loc main_v27) = rlogp (RX m c) (RG m c)
      ∧ r.2.mem ((c.tc : Thread nD τ).loc main_v14) = rent (RX m c)
      ∧ r.2.mem ((c.tc : Thread nD τ).loc main_arg0) = m ((c.tc : Thread nD τ).loc main_arg0)) := by
  refine (θ_run _ _ _).mono (fun r h c => ?_) (StableHlo.run_hlo _ _ line.2 (by decide) (by decide) line_bufs line_fresh m g)
  have e : ∀ b, r.2.mem ((c.tc : Thread nD τ).loc b) = _ := fun b => (h c b).trans (after_line m c _)
  refine ⟨(e _).trans ((B_v24 _).trans ?_), (e _).trans ((B_v27 _ ?_).trans ?_), (e _).trans ((B_v14 _).trans (VN_v14 m c)),
    (e _).trans ((B_arg0 _).trans (VN_arg0 m c))⟩
  · rw [VN_arg0]; rfl
  · rw [VN_arg0]; exact VN_v10 m c
  · rw [VN_arg0]; rfl

end Run

/-- The frame. -/
theorem quiet_ref : Cert.quiescent_ReferenceIdeal := fun m g _ =>
  (θ_run _ _ _).mono (fun r h => ⟨fun c => (h c).2.2.2, sem_eq_zero_of_no_sems (by decide) r.2⟩) (ref_run m g)

end Cert.ReferenceIdeal.Gumbel

end
-- ==== Proof.RefMath.lean ====
/- The reference's results row by row: the row's log normaliser, its entropy, the first column of greatest score and
   that column's log probability. -/
module

public import proofs.«01_k».proof.Proof.RefRun
public import proofs.«01_k».proof.Proof.KernelMath
public import Idealize.ShloMosaic.Lib.IdealHost
public import Idealize.ShloMosaic.Lib.Pointwise.Reduce

@[expose] public section

noncomputable section

namespace Cert.ReferenceIdeal.Gumbel

open Cert.ReferenceIdeal Cert.ReferenceIdeal.Facts₀ Cert.Gumbel Finset
open Cert.KernelIdeal.Gumbel (at1 atc at2 xv yv xv_in yv_in xv_lt_top sumE sumXE top sumE_pos top_ne_bot ofNat_toInt ofNat_inj)
open Idealize.ShloMosaic Idealize.ShloMosaic.TcCoe

variable [hR : Cert.ReferenceIdeal.Facts]

/-! ## The row's log normaliser -/

theorem red1 : S32x1000000.Reduces [1] S32 := by decide

theorem lift_row (r : Fin 32) (q : Fin 1000000) : red1.lift (at1 r) q = at2 r q := by
  funext a; match a with | ⟨0, _⟩ => rfl | ⟨1, _⟩ => rfl

theorem column_apply {α : Type} (v : S32.Idx → α) (r : Fin 32) :
    broadcastInDim S32x1 ![0] bcast_S32_S32x1_0 v (atc r) = v (at1 r) := by
  refine congrArg v (funext fun a => Fin.ext ?_)
  match a with | ⟨0, _⟩ => rfl

theorem wide_apply (v : Tall) (r : Fin 32) (q : Fin 1000000) : wide v (at2 r q) = v (atc r) := by
  refine congrArg v (funext fun a => Fin.ext ?_)
  match a with | ⟨0, _⟩ => rfl | ⟨1, _⟩ => rfl

theorem ninf_eq : (FloatOps.ofBits .f32 0xFF800000#32 : Ideal .f32) = (⊥ : EReal) := Cert.KernelIdeal.Gumbel.ofBits_ninf

theorem rmax_apply (x : Wide) (r : Fin 32) : (rmax x (atc r) : EReal) = top x r := by
  refine (column_apply _ r).trans ((Host.reduce_eq_fold_single _ _ _ _ red1 _ _).trans ?_)
  refine Eq.trans (b := univ.fold max (⊥ : EReal) (fun q : Fin 1000000 => xv x r q.val)) ?_ (sup_fin (xv x r))
  refine Eq.trans (fold_congr (g := fun q : Fin 1000000 => xv x r q.val) fun q _ => ?_) ?_
  · exact (congrArg x (lift_row r q)).trans (xv_in x r q.isLt).symm
  · exact congrArg (fun b : EReal => univ.fold max b (fun q : Fin 1000000 => xv x r q.val)) ninf_eq

theorem rsum_apply (v : Wide) (r : Fin 32) : (rsum v (at1 r) : EReal) = ∑ q : Fin 1000000, (v (at2 r q) : EReal) := by
  refine (Ideal.hostReduceAdd_single reducesTo_S32x1000000_S32_d1 red1 v _ (at1 r)).trans ?_
  refine (congrArg₂ (· + ·) (show _ = (0 : EReal) from Ideal.ofBits_zero_f32)
    (sum_congr rfl fun q _ => congrArg v (lift_row r q))).trans (zero_add _)

/-! The operations at an index, for any arrays. -/

theorem add_log_apply (a b : Tall) (i : S32x1.Idx) : (addf a (Host.log b) i : EReal) = (a i : EReal) + Ideal.log (b i) := rfl
theorem exp_sub_apply (a b : Wide) (i : S32x1000000.Idx) : (Host.exp (subf a b) i : EReal) = Ideal.exp ((a i : EReal) - b i) := rfl
theorem exp_mul_apply (a : Wide) (i : S32x1000000.Idx) : (mulf (Host.exp a) a i : EReal) = Ideal.exp (a i) * (a i : EReal) := rfl
theorem sub_apply (a b : Wide) (i : S32x1000000.Idx) : (subf a b i : EReal) = (a i : EReal) - b i := rfl
theorem neg_apply (a : Flat) (i : S32.Idx) : (Host.negf a i : EReal) = -(a i : EReal) := rfl

section Row

variable (x g : Wide) (hx : ∀ j, (x j : EReal) < ⊤) (r : Fin 32) {k : ℕ} (hk : First (yv x g r) 1000000 k) (hb : yv x g r k ≠ ⊥)

include hx in
theorem top_lt' : top x r < ⊤ := sup_lt_top _ _ fun q _ => xv_lt_top x hx r q

include hx hk hb in
theorem rlse_apply : (rlse x (atc r) : EReal) = ((Real.log (sumE x r) : ℝ) : EReal) := by
  have hs : (rsum (Host.exp (subf x (wide (rmax x)))) (at1 r) : EReal) = ((ww (top x r) * sumE x r : ℝ) : EReal) := by
    refine (rsum_apply _ r).trans ?_
    have e : ∀ q : Fin 1000000, (Host.exp (subf x (wide (rmax x))) (at2 r q) : EReal)
        = ((ee (xv x r q.val) * ww (top x r) : ℝ) : EReal) := fun q => by
      rw [exp_sub_apply, wide_apply, rmax_apply, ← xv_in x r q.isLt]
      exact exp_sub (le_sup (f := xv x r) (mem_range.mpr q.isLt)) (top_lt' x hx r)
    refine (sum_congr rfl fun q _ => e q).trans ?_
    rw [coe_sum, Fin.sum_univ_eq_sum_range (fun q => ee (xv x r q) * ww (top x r)) 1000000, ← sum_mul, mul_comm, ← sumE]
  unfold rlse
  refine (add_log_apply _ _ _).trans ?_
  rw [column_apply, hs, rmax_apply]
  exact logz_eq (top_ne_bot x g r hk.lt hb) (top_lt' x hx r) (sumE_pos x g r hk.lt hb)

include hx hk hb in
theorem rlp_apply (q : Fin 1000000) : (rlp x (at2 r q) : EReal) = xv x r q.val - ((Real.log (sumE x r) : ℝ) : EReal) := by
  unfold rlp
  rw [sub_apply, wide_apply, rlse_apply x g hx r hk hb, xv_in x r q.isLt]

include hx hk hb in
theorem rent_apply : (rent x (at1 r) : EReal) = ((Real.log (sumE x r) - sumXE x r / sumE x r : ℝ) : EReal) := by
  unfold rent
  rw [neg_apply, rsum_apply]
  have e : ∀ q : Fin 1000000, (mulf (Host.exp (rlp x)) (rlp x) (at2 r q) : EReal)
      = Ideal.exp (xv x r q.val - ((Real.log (sumE x r) : ℝ) : EReal)) * (xv x r q.val - ((Real.log (sumE x r) : ℝ) : EReal)) :=
    fun q => by rw [exp_mul_apply, rlp_apply x g hx r hk hb]
  rw [sum_congr rfl fun q _ => e q,
    Fin.sum_univ_eq_sum_range (fun q => Ideal.exp (xv x r q - ((Real.log (sumE x r) : ℝ) : EReal))
      * (xv x r q - ((Real.log (sumE x r) : ℝ) : EReal))) 1000000]
  exact entropy_eq (range 1000000) (xv x r) (fun q _ => xv_lt_top x hx r q) (sumE_pos x g r hk.lt hb)

end Row

end Cert.ReferenceIdeal.Gumbel

end
-- ==== Proof.ArgFirst.lean ====
/- The reference's arg-max of a row: folding its reducer over the row's pairs leaves the first column of greatest score. -/
module

public import proofs.«01_k».proof.Proof.RefRun
public import proofs.«01_k».proof.Proof.KernelMath
public import Idealize.ShloMosaic.Lib.IdealHost
public import Idealize.ShloMosaic.Lib.Pointwise.Reduce

@[expose] public section

noncomputable section

namespace Cert.ReferenceIdeal.Gumbel

open Cert.ReferenceIdeal Cert.ReferenceIdeal.Facts₀ Cert.Gumbel Finset
open Cert.KernelIdeal.Gumbel (at1 atc at2 xv yv xv_in yv_in ofNat_toInt ofNat_inj)
open Idealize.ShloMosaic Idealize.ShloMosaic.TcCoe

variable [hR : Cert.ReferenceIdeal.Facts]

/-- A score and its column. -/
abbrev Scored : Type := EReal × BitVec 32

/-- The greater of two, of equal scores the lesser column. -/
def pick (a b : Scored) : Scored :=
  (if b.1 < a.1 then a.1 else b.1, if b.1 < a.1 ∨ (a.1 = b.1 ∧ a.2.toInt < b.2.toInt) then a.2 else b.2)

theorem reducer_eq : (reducer_argmax_f32_i32 (F := Ideal) : Scored → Scored → Scored) = pick := by
  classical
  funext a b
  have e1 : (Ideal.cmp .ogt a.1 b.1 : BitVec 1) = BitVec.ofBool (decide (b.1 < a.1)) := by unfold Ideal.cmp; congr
  have e2 : (Ideal.cmp .une a.1 a.1 : BitVec 1) = 0#1 := by simp [Ideal.cmp]
  have e3 : (Ideal.cmp .oeq a.1 b.1 : BitVec 1) = BitVec.ofBool (decide (a.1 = b.1)) := by unfold Ideal.cmp; congr
  have e4 : IntOp.cmpi .slt a.2 b.2 = BitVec.ofBool (decide (a.2.toInt < b.2.toInt)) := by
    show BitVec.ofBool (a.2.slt b.2) = _
    rw [BitVec.slt_eq_decide]
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2) = _
  rw [e1, e2, e3, e4]
  unfold pick
  by_cases h1 : b.1 < a.1 <;> by_cases h2 : a.1 = b.1 <;> by_cases h3 : a.2.toInt < b.2.toInt <;>
    simp [h1, h2, h3, IntOp.ori, IntOp.andi, Scalar.select]

/-- `p` wins over `q`. -/
def Beats (p q : Scored) : Prop := q.1 < p.1 ∨ (q.1 = p.1 ∧ (q = p ∨ p.2.toInt < q.2.toInt))

theorem pick_left {p q : Scored} (h : Beats p q) : pick p q = p := by
  unfold pick
  rcases h with h | ⟨h, rfl | h'⟩
  · simp [h]
  · simp
  · simp [h, h']

theorem pick_right {p q : Scored} (h : Beats p q) : pick q p = p := by
  unfold pick
  rcases h with h | ⟨h, rfl | h'⟩
  · simp [not_lt.mpr h.le, h.ne]
  · simp
  · simp [h, not_lt.mpr h'.le]

theorem pick_or (p q : Scored) : pick p q = p ∨ pick p q = q := by
  unfold pick
  by_cases h1 : q.1 < p.1
  · left; simp [h1]
  · by_cases h2 : p.1 = q.1 ∧ p.2.toInt < q.2.toInt
    · left; simp [h2.1, h2.2, Prod.ext_iff]
    · right; simp [h1, h2]

/-- A pair that wins over the start and over every pair of the list, one of them, is what the fold leaves. -/
theorem foldl_pick {p : Scored} : ∀ (L : List Scored) (s : Scored), (∀ q ∈ L, Beats p q) → Beats p s → (s = p ∨ p ∈ L) →
    L.foldl pick s = p
  | [], s, _, _, h => h.resolve_right List.not_mem_nil
  | a :: L, s, hL, hs, h => by
    have ha : Beats p a := hL a List.mem_cons_self
    refine foldl_pick L (pick s a) (fun q hq => hL q (List.mem_cons_of_mem _ hq)) ?_ ?_
    · rcases pick_or s a with e | e <;> rw [e] <;> assumption
    · rcases h with rfl | h
      · exact .inl (pick_left ha)
      · rcases List.mem_cons.mp h with rfl | h
        · exact .inl (pick_right hs)
        · exact .inr h

/-- The fold over a fiber, whatever the shapes: the pair at `i` wins over the start and over every other of the fiber. -/
theorem fiber_pick {s t : Shape} {axes : List (Fin s.rank)} (x : s.Idx → EReal) (y : s.Idx → BitVec 32) (h : s.ReducesTo axes t)
    (j : t.Idx) (i : s.Idx) (hi : h.drop i = j) (st : Scored) (hst : Beats (x i, y i) st)
    (hall : ∀ i', h.drop i' = j → Beats (x i, y i) (x i', y i')) :
    (Host.argReduceFiber x y h j).foldl pick st = (x i, y i) := by
  refine foldl_pick _ _ (fun p hp => ?_) hst (.inr ?_)
  · obtain ⟨n, hn, rfl⟩ := List.mem_map.mp hp
    exact hall _ (of_decide_eq_true (List.mem_filter.mp hn).2)
  · refine List.mem_map.mpr ⟨s.rowMajor i, List.mem_filter.mpr ⟨List.mem_finRange _, ?_⟩, ?_⟩
    · rw [Equiv.symm_apply_apply]; exact decide_eq_true hi
    · rw [Equiv.symm_apply_apply]

/-- The arg-max at `j`, whatever the shapes. -/
theorem argmax_apply {s t u : Shape} {axes : List (Fin s.rank)} (x : s.Idx → EReal) (y : s.Idx → BitVec 32)
    (ix : u.Idx → EReal) (iy : u.Idx → BitVec 32) (h : s.ReducesTo axes t) (hu : 0 < u.numel)
    (j : t.Idx) (i : s.Idx) (hi : h.drop i = j) (hst : ∀ a, ix a < x i)
    (hall : ∀ i', h.drop i' = j → Beats (x i, y i) (x i', y i')) :
    (Host.argReduce (F := Ideal) (φ := .f32) reducer_argmax_f32_i32 x y ix iy h hu j : Scored) = (x i, y i) := by
  rw [Ideal.argReduce_eq_reduce2, Host.reduce2_eq_foldl_fiber, show (reducer_argmax_f32_i32 (F := Ideal)) = pick from reducer_eq]
  exact fiber_pick x y h j i hi _ (.inl (hst _)) hall

/-- The first column of greatest score wins over every other. -/
theorem first_beats {y : ℕ → EReal} {n k : ℕ} (hn : n ≤ 1000000) (hk : First y n k) {q : ℕ} (hq : q < n) :
    Beats (y k, BitVec.ofNat 32 k) (y q, BitVec.ofNat 32 q) := by
  rcases lt_trichotomy q k with h | h | h
  · exact .inl (hk.first _ h)
  · rw [h]; exact .inr ⟨rfl, .inl rfl⟩
  · rcases (hk.le q hq).lt_or_eq with h' | h'
    · exact .inl h'
    · refine .inr ⟨h', .inr ?_⟩
      show (BitVec.ofNat 32 k).toInt < (BitVec.ofNat 32 q).toInt
      rw [ofNat_toInt (lt_of_lt_of_le hk.lt hn), ofNat_toInt (lt_of_lt_of_le hq hn)]; exact_mod_cast h

section Row

variable (x g : Wide) (r : Fin 32) {k : ℕ} (hk : First (yv x g r) 1000000 k) (hb : yv x g r k ≠ ⊥)

theorem score_apply (q : Fin 1000000) : (addf g x (at2 r q) : EReal) = yv x g r q.val := by
  show (g (at2 r q) : EReal) + (x (at2 r q) : EReal) = _
  rw [yv_in x g r q.isLt, add_comm]

theorem fiber_row (i : S32x1000000.Idx) :
    reducesTo_S32x1000000_S32_d1.drop i = at1 r ↔ ∃ q : Fin 1000000, at2 r q = i := by
  refine (Shape.ReducesTo.fiber_r2_a1 _ _ _).trans (exists_congr fun q => Eq.congr_left ?_)
  funext a; match a with | ⟨0, _⟩ => rfl | ⟨1, _⟩ => rfl

theorem column_number (q : Fin 1000000) : iotaInDim S32x1000000 32 1 (at2 r q) = BitVec.ofNat 32 q.val := rfl

include hk in
theorem row_beats (i : S32x1000000.Idx) (hi : reducesTo_S32x1000000_S32_d1.drop i = at1 r) :
    Beats ((addf g x (at2 r ⟨k, hk.lt⟩) : EReal), iotaInDim S32x1000000 32 1 (at2 r ⟨k, hk.lt⟩))
      ((addf g x i : EReal), iotaInDim S32x1000000 32 1 i) := by
  obtain ⟨q, rfl⟩ := (fiber_row r i).mp hi
  have e : ∀ q : Fin 1000000, ((addf g x (at2 r q) : EReal), iotaInDim S32x1000000 32 1 (at2 r q))
      = (yv x g r q.val, BitVec.ofNat 32 q.val) := fun q => Prod.ext (score_apply x g r q) (column_number r q)
  rw [e, e]
  exact first_beats le_rfl hk q.isLt

include hk hb in
theorem row_start (a : S_.Idx) : (constant (F := Ideal) S_ .f32 0xFF800000#32 a : EReal) < (addf g x (at2 r ⟨k, hk.lt⟩) : EReal) := by
  rw [score_apply]
  exact lt_of_eq_of_lt Cert.KernelIdeal.Gumbel.ofBits_ninf (bot_lt_iff_ne_bot.mpr hb)

/-- The second of each pair. -/
def second {ι α β : Type} (p : ι → α × β) : ι → β := fun j => (p j).2

theorem second_apply {ι α β : Type} {p : ι → α × β} {j : ι} {q : α × β} (h : p j = q) : second p j = q.2 := congrArg Prod.snd h

theorem rsamp_def : rsamp x g = second (Host.argReduce reducer_argmax_f32_i32 (addf g x) (iotaInDim S32x1000000 32 1)
    (constant (F := Ideal) S_ .f32 0xFF800000#32) (constantI S_ 32 0#32) reducesTo_S32x1000000_S32_d1 h_S_) := by
  delta rsamp second
  rfl

include hk hb in
theorem rsamp_apply : rsamp x g (at1 r) = BitVec.ofNat 32 k := by
  have hd : reducesTo_S32x1000000_S32_d1.drop (at2 r ⟨k, hk.lt⟩) = at1 r := (fiber_row r _).mpr ⟨_, rfl⟩
  have h := argmax_apply (addf g x) (iotaInDim S32x1000000 32 1) (constant (F := Ideal) S_ .f32 0xFF800000#32) (constantI S_ 32 0#32)
    reducesTo_S32x1000000_S32_d1 h_S_ (at1 r) (at2 r ⟨k, hk.lt⟩) hd (row_start x g r hk hb) (row_beats x g r hk)
  rw [rsamp_def]
  exact second_apply h

end Row

end Cert.ReferenceIdeal.Gumbel

end
-- ==== Proof.RefTaken.lean ====
/- The log probability the reference reads out of its array: the index of a sampled column lies inside the row, so the
   wrap of negative indices and the mask of outside ones do nothing, and the gather reads that column. -/
module

public import proofs.«01_k».proof.Proof.RefMath
public import proofs.«01_k».proof.Proof.ArgFirst
public import Idealize.ShloMosaic.Lib.ValueIdxCore

@[expose] public section

noncomputable section

namespace Cert.ReferenceIdeal.Gumbel

open Cert.ReferenceIdeal Cert.ReferenceIdeal.Facts₀ Cert.Gumbel Finset
open Cert.KernelIdeal.Gumbel (at1 atc at2 xv yv sumE ofNat_toInt)
open Idealize.ShloMosaic Idealize.ShloMosaic.TcCoe

variable [hR : Cert.ReferenceIdeal.Facts]

/-- Row `r` of the gather's indices. -/
def at3 (r : Fin 32) : S32x1x1.Idx := fun a => match a with | ⟨0, _⟩ => r | ⟨1, _⟩ => (0 : Fin 1) | ⟨2, _⟩ => (0 : Fin 1)

theorem deepen_apply {α : Type} (v : S32x1.Idx → α) (r : Fin 32) :
    shapeCast S32x1x1 v shapeCasts_S32x1_S32x1x1 (at3 r) = v (atc r) :=
  shapeCast_apply v _ _ _ (by
    rw [rowMajor_val2 _ 1 rfl, rowMajor_val3 _ 1 1 rfl rfl]; show r.val * 1 + 0 = r.val * 1 + 0 * 1 + 0; omega)

theorem wrap_apply (s a : IVec S32x1 32) (z : IVec S32x1 32) (i : S32x1.Idx) (hz : z i = 0#32) (hs : 0 ≤ (s i).toInt) :
    select (cmpi .slt s z) a s i = s i := by
  show Scalar.select (BitVec.ofBool ((s i).slt (z i))) (a i) (s i) = s i
  rw [hz, BitVec.slt_eq_decide, decide_eq_false (by rw [BitVec.toInt_zero]; omega)]
  rfl

theorem rix_apply (s : IVec S32 32) (r : Fin 32) (hs : 0 ≤ (s (at1 r)).toInt) : rix s (at3 r) = s (at1 r) := by
  unfold rix
  refine (deepen_apply _ r).trans ((wrap_apply _ _ _ _ rfl ?_).trans (column_apply s r))
  rw [column_apply]; exact hs

theorem inside_bit (i a b : IVec S32x1x1 32) (j : S32x1x1.Idx) (ha : a j = 0#32) (hb : b j = 999999#32)
    (h0 : 0 ≤ (i j).toInt) (h1 : (i j).toInt < 1000000) : andi (cmpi .sge i a) (cmpi .sle i b) j = 1#1 := by
  show BitVec.ofBool ((a j).sle (i j)) &&& BitVec.ofBool ((i j).sle (b j)) = 1#1
  rw [ha, hb, BitVec.sle_eq_decide, BitVec.sle_eq_decide,
    decide_eq_true (by rw [BitVec.toInt_zero]; exact h0),
    decide_eq_true (by rw [show (999999#32 : BitVec 32).toInt = 999999 from rfl]; omega)]
  rfl

theorem red2 : S32x1x1.Reduces [2] S32x1 := by decide

theorem lift_deep (r : Fin 32) (q : Fin 1) : red2.lift (atc r) q = at3 r := by
  obtain rfl : q = 0 := Subsingleton.elim _ _
  funext a; match a with | ⟨0, _⟩ => rfl | ⟨1, _⟩ => rfl | ⟨2, _⟩ => rfl

theorem all_one (v : IVec S32x1x1 1) (r : Fin 32) (h : v (at3 r) = 1#1) :
    Host.reduce IntOp.andi v (constantI S_ 1 1#1) reducesTo_S32x1x1_S32x1_d2 h_S_ (atc r) = 1#1 := by
  refine (Host.reduce_eq_fold_single IntOp.andi v (constantI S_ 1 1#1) reducesTo_S32x1x1_S32x1_d2 red2 h_S_ (atc r)).trans ?_
  refine (fold_congr (g := fun _ : Fin 1 => 1#1) fun q _ => (congrArg v (lift_deep r q)).trans h).trans ?_
  exact (fold_singleton (op := IntOp.andi) (a := (0 : Fin 1)) (b := 1#1) (f := fun _ => 1#1)).trans rfl

theorem rok_apply (i : IVec S32x1x1 32) (r : Fin 32) (h0 : 0 ≤ (i (at3 r)).toInt) (h1 : (i (at3 r)).toInt < 1000000) :
    rok i (atc r) = 1#1 := by
  unfold rok
  exact all_one _ r (inside_bit _ _ _ _ rfl rfl h0 h1)

/-- The gather at row `r`: the array there, at the column its index names. -/
theorem gather_apply (v : Wide) (i : IVec S32x1x1 32) (r : Fin 32) (q : Fin 1000000) (hq : (i (at3 r)).toInt = q.val) :
    Host.gather gather_S32x1000000_S32x1x1_S32x1_n_1_0_0_1_2_11 v i (atc r) = v (at2 r q) := by
  unfold Host.gather
  refine congrArg v (funext fun a => Fin.ext ?_)
  show gather_S32x1000000_S32x1x1_S32x1_n_1_0_0_1_2_11.start (atc r) i a
    + gather_S32x1000000_S32x1x1_S32x1_n_1_0_0_1_2_11.batchCoord (atc r) a
    + gather_S32x1000000_S32x1x1_S32x1_n_1_0_0_1_2_11.offCoord (atc r) a = _
  have ha : a = 0 ∨ a = 1 := by match a with | ⟨0, _⟩ => exact .inl rfl | ⟨1, _⟩ => exact .inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S32x1000000_S32x1x1_S32x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32x1000000_S32x1x1_S32x1_n_1_0_0_1_2_11.startIndexMap from List.mem_singleton.mpr rfl)]
    have hsi : gather_S32x1000000_S32x1x1_S32x1_n_1_0_0_1_2_11.siIdx (atc r)
        ⟨List.idxOf (1 : Fin 2) gather_S32x1000000_S32x1x1_S32x1_n_1_0_0_1_2_11.startIndexMap,
          List.idxOf_lt_length_iff.2 (List.mem_singleton.mpr rfl)⟩ = at3 r := by
      funext b; refine Fin.ext ?_
      match b with | ⟨0, _⟩ => rfl | ⟨1, _⟩ => rfl | ⟨2, _⟩ => rfl
    rw [hsi, hq]
    show min (q.val : ℤ).toNat (1000000 - 1) = q.val
    have := q.isLt
    omega

theorem taken_apply (b : IVec S32x1 1) (v n : Tall) (i : S32x1.Idx) (hb : b i = 1#1) : select b v n i = v i := by
  show Scalar.select (b i) (v i) (n i) = v i
  rw [hb]; rfl

theorem flatten_apply {α : Type} (x : S32x1.Idx → α) (r : Fin 32) : shapeCast S32 x shapeCasts_S32x1_S32 (at1 r) = x (atc r) :=
  shapeCast_apply x _ _ _ (by rw [rowMajor_val1, rowMajor_val2 _ 1 rfl]; show r.val * 1 + 0 = r.val; omega)

section Row

variable (x g : Wide) (hx : ∀ j, (x j : EReal) < ⊤) (r : Fin 32) {k : ℕ} (hk : First (yv x g r) 1000000 k) (hb : yv x g r k ≠ ⊥)

include hx hk hb in
theorem rlogp_apply : (rlogp x g (at1 r) : EReal) = xv x r k - ((Real.log (sumE x r) : ℝ) : EReal) := by
  have hs : (rsamp x g (at1 r)).toInt = k := by rw [rsamp_apply x g r hk hb, ofNat_toInt hk.lt]
  have hi : (rix (rsamp x g) (at3 r)).toInt = k := by rw [rix_apply _ r (by omega), hs]
  have hlt := hk.lt
  unfold rlogp
  refine (flatten_apply _ r).trans ((taken_apply _ _ _ _ (rok_apply _ r (by omega) (by omega))).trans ?_)
  exact (gather_apply _ _ r ⟨k, hk.lt⟩ hi).trans (rlp_apply x g hx r hk hb ⟨k, hk.lt⟩)

end Row

end Cert.ReferenceIdeal.Gumbel

end
-- ==== Proof.PreRead.lean ====
/- What the precondition says, index by index: every logit is below plus infinity, and every row has a logit above
   minus infinity. -/
module

public import proofs.«01_k».proof.Defs
public import proofs.«01_k».proof.Proof.KernelMath
public import Idealize.ShloMosaic.Lib.IdealHost
public import Idealize.ShloMosaic.Lib.Pointwise.Reduce

@[expose] public section

noncomputable section

namespace Cert.Pre_logits_proper.Gumbel

open Cert.Pre_logits_proper Finset
open Cert.KernelIdeal.Gumbel (at1 at2 ofBits_ninf)
open Idealize.ShloMosaic

/-- The predicate's shapes fit. -/
theorem facts : Cert.Pre_logits_proper.Facts where
  bcast_S_S32x1000000 := by decide
  reducesTo_S32x1000000_S_d0_1 := by decide
  h_S_ := by decide
  reducesTo_S32x1000000_S32_d1 := by decide
  reducesTo_S32_S_d0 := by decide

/-! ## Conjunctions and disjunctions of bits -/

theorem and_one {a b : BitVec 1} (h : IntOp.andi a b = 1#1) : a = 1#1 ∧ b = 1#1 := by
  revert a b; decide

theorem or_one {a b : BitVec 1} (h : IntOp.ori a b = 1#1) : a = 1#1 ∨ b = 1#1 := by
  revert a b; decide

theorem fold_and {ι : Type} (s : Finset ι) (b : BitVec 1) (f : ι → BitVec 1) (h : s.fold IntOp.andi b f = 1#1) :
    ∀ i ∈ s, f i = 1#1 := by
  classical
  induction s using Finset.induction_on with
  | empty => simp
  | insert a s ha ih =>
    rw [fold_insert ha] at h
    intro i hi
    rcases mem_insert.mp hi with rfl | hi
    · exact (and_one h).1
    · exact ih (and_one h).2 i hi

theorem fold_or {ι : Type} (s : Finset ι) (f : ι → BitVec 1) (h : s.fold IntOp.ori 0#1 f = 1#1) :
    ∃ i ∈ s, f i = 1#1 := by
  classical
  induction s using Finset.induction_on with
  | empty => exact absurd h (by rw [fold_empty]; decide)
  | insert a s ha ih =>
    rw [fold_insert ha] at h
    rcases or_one h with h | h
    · exact ⟨a, mem_insert_self _ _, h⟩
    · obtain ⟨i, hi, e⟩ := ih h
      exact ⟨i, mem_insert_of_mem hi, e⟩

section Reduce

variable {s t u : Shape} {axes : List (Fin s.rank)}

theorem reduce_and (x : s.Idx → BitVec 1) (init : u.Idx → BitVec 1) (h : s.ReducesTo axes t) (hu : 0 < u.numel) (j : t.Idx)
    (e : Host.reduce IntOp.andi x init h hu j = 1#1) : ∀ i, h.drop i = j → x i = 1#1 := fun i hi => by
  rw [Host.reduce_eq_fold] at e
  exact fold_and _ _ _ e i (mem_filter.mpr ⟨mem_univ _, hi⟩)

theorem reduce_or (x : s.Idx → BitVec 1) (init : u.Idx → BitVec 1) (hinit : ∀ a, init a = 0#1) (h : s.ReducesTo axes t)
    (hu : 0 < u.numel) (j : t.Idx) (e : Host.reduce IntOp.ori x init h hu j = 1#1) : ∃ i, h.drop i = j ∧ x i = 1#1 := by
  rw [Host.reduce_eq_fold, hinit] at e
  obtain ⟨i, hi, e⟩ := fold_or _ _ e
  exact ⟨i, (mem_filter.mp hi).2, e⟩

end Reduce

theorem bit_true {p : Prop} {d : Decidable p} (h : BitVec.ofBool (@decide p d) = 1#1) : p := by
  by_contra hp
  rw [decide_eq_false hp] at h
  exact absurd h (by decide)

theorem ofBits_pinf : (FloatOps.ofBits .f32 0x7F800000#32 : Ideal .f32) = (⊤ : EReal) := by
  show Ideal.ofBits .f32 0x7F800000#32 = ⊤
  simp [Ideal.ofBits, Ideal.ieee]

theorem below (a b : EReal) (h : Ideal.cmp .olt a b = 1#1) : a < b := by
  unfold Ideal.cmp at h; exact bit_true h

theorem above (a b : EReal) (h : Ideal.cmp .ogt a b = 1#1) : b < a := by
  unfold Ideal.cmp at h; exact bit_true h

section Read

variable [hF : Cert.Pre_logits_proper.Facts] (x : FVec Ideal S32x1000000 .f32)

open Cert.Pre_logits_proper.Facts

theorem fiber_row (i : S32x1000000.Idx) (r : Fin 32) :
    reducesTo_S32x1000000_S32_d1.drop i = at1 r ↔ ∃ q : Fin 1000000, at2 r q = i := by
  refine (Shape.ReducesTo.fiber_r2_a1 _ _ _).trans (exists_congr fun q => Eq.congr_left ?_)
  funext a; match a with | ⟨0, _⟩ => rfl | ⟨1, _⟩ => rfl

theorem logits_below (v : FVec Ideal S32x1000000 .f32) (b : FVec Ideal S_ .f32) (hb : ∀ a, b a = (⊤ : EReal)) (init : IVec S_ 1) (j : S_.Idx)
    (h : Host.reduce IntOp.andi (cmpf .olt v (broadcastInDim S32x1000000 ![] bcast_S_S32x1000000 b)) init
      reducesTo_S32x1000000_S_d0_1 h_S_ j = 1#1) (i : S32x1000000.Idx) : (v i : EReal) < ⊤ := by
  have e := reduce_and _ _ _ _ _ h i (funext fun a => a.elim0)
  exact lt_of_lt_of_eq (below _ _ e) (hb _)

theorem some_above (v : FVec Ideal S32x1000000 .f32) (b : FVec Ideal S_ .f32) (hb : ∀ a, b a = (⊥ : EReal)) (ii io : IVec S_ 1)
    (hio : ∀ a, io a = 0#1) (j : S_.Idx)
    (h : Host.reduce IntOp.andi (Host.reduce IntOp.ori (cmpf .ogt v (broadcastInDim S32x1000000 ![] bcast_S_S32x1000000 b)) io
      reducesTo_S32x1000000_S32_d1 h_S_) ii reducesTo_S32_S_d0 h_S_ j = 1#1) (r : Fin 32) :
    ∃ q : Fin 1000000, (⊥ : EReal) < v (at2 r q) := by
  have e := reduce_and _ _ _ _ _ h (at1 r) (funext fun a => a.elim0)
  obtain ⟨i, hi, e⟩ := reduce_or _ _ hio _ _ _ e
  obtain ⟨q, rfl⟩ := (fiber_row i r).mp hi
  exact ⟨q, lt_of_eq_of_lt (hb _).symm (above _ _ e)⟩

/-- What the precondition says. -/
theorem read (h : fn (F := Ideal) x = fun _ => 1#1) :
    (∀ j, (x j : EReal) < ⊤) ∧ ∀ r, ∃ q : Fin 1000000, (⊥ : EReal) < x (at2 r q) := by
  have h0 := and_one (congrFun h (Shape.Idx.first h_S_))
  exact ⟨logits_below x _ (fun _ => ofBits_pinf) _ _ h0.1,
    fun r => some_above x _ (fun _ => ofBits_ninf) _ _ (fun _ => rfl) _ h0.2 r⟩

end Read

end Cert.Pre_logits_proper.Gumbel

end
-- ==== Proof.Noise.lean ====
/- The noise: the kernel's operations before the region and the reference's draw the same array. -/
module

public import proofs.«01_k».proof.Proof.RefOps
public import proofs.«01_k».proof.Proof.Sim
public import proofs.«01_k».proof.Proof.Gen.KernelIdeal.Launch

@[expose] public section

noncomputable section

namespace Cert.Gumbel

open Idealize.ShloMosaic Idealize.ShloMosaic.TcCoe Idealize.SL.Sem
open Cert.KernelIdeal.Gen (hostOps0 hostOps0_1)
open Cert.ReferenceIdeal.Gumbel (opsN line)

variable [hR : Cert.ReferenceIdeal.Facts]

/-- The match of an operand: by computation. -/
theorem pair_of {lo d n : ℕ} {x : Ref Cert.KernelIdeal.sig .tc} {x' : Ref Cert.ReferenceIdeal.sig .tc} (h1 : x.space = .hbm)
    (h2 : x'.space = .hbm) (h3 : Nat.ble lo x.idx.val = true) (h4 : Nat.ble (x.idx.val + 1) n = true) (h5 : x'.idx.val = x.idx.val + d) :
    Sim.Pair lo d n x x' :=
  ⟨h1, h2, Nat.le_of_ble_eq_true h3, Nat.le_of_ble_eq_true h4, h5⟩

set_option maxRecDepth 100000 in
set_option maxHeartbeats 2000000 in
theorem noise_sim : Sim.Sim Cert.KernelIdeal.main_v6.idx.val 18 (Cert.KernelIdeal.main_v6.idx.val + 1) (hostOps0_1 (F := Ideal)) opsN
    (Cert.KernelIdeal.main_v7, Cert.ReferenceIdeal.main_v22) := by
  simp only [opsN, line, List.drop_succ_cons, List.drop_zero, List.take_succ_cons, List.take_zero]
  iterate 267 (first
    | with_reducible refine Sim.nullary ?_ ?_ ?_
      · rfl
      · exact ⟨rfl, rfl, rfl, rfl⟩
    | with_reducible refine Sim.unary ?_ ?_ ?_ ?_
      · rfl
      · exact pair_of rfl rfl rfl rfl rfl
      · exact ⟨rfl, rfl, rfl, rfl⟩
    | with_reducible refine Sim.binary ?_ ?_ ?_ ?_ ?_
      · rfl
      · exact pair_of rfl rfl rfl rfl rfl
      · exact pair_of rfl rfl rfl rfl rfl
      · exact ⟨rfl, rfl, rfl, rfl⟩
    | with_reducible refine Sim.reshape ?_ ?_ ?_
      · exact pair_of rfl rfl rfl rfl rfl
      · exact ⟨rfl, rfl, rfl, rfl⟩)
  exact Sim.nil (pair_of rfl rfl rfl rfl rfl)

end Cert.Gumbel

end
-- ==== Proof.NoiseAbove.lean ====
/- The kernel's noise is above minus infinity: it is minus the logarithm of minus the logarithm of a number not below the least
   normal number. -/
module

public import proofs.«01_k».proof.Proof.Above
public import proofs.«01_k».proof.Proof.Gen.KernelIdeal.Launch
public import Idealize.ShloMosaic.Lib.Pipeline.Frame
public import Idealize.ShloMosaic.PureOps.Ideal.Laws

@[expose] public section

noncomputable section

namespace Cert.KernelIdeal.Gumbel

open Cert.KernelIdeal Cert.KernelIdeal.Gen
open Idealize.ShloMosaic Idealize.ShloMosaic.TcCoe

/-! The noise's operations: the first four, those between, and the last six. -/

abbrev opsF : List (HloOp τ sig (Elt Ideal)) := hostOps0_1.take 4
abbrev opsM : List (HloOp τ sig (Elt Ideal)) := (hostOps0_1.drop 4).take 257
abbrev opsL : List (HloOp τ sig (Elt Ideal)) := hostOps0_1.drop 261

theorem split_eq : (hostOps0_1 : List (HloOp τ sig (Elt Ideal))) = opsF ++ (opsM ++ opsL) := by
  unfold opsF opsM opsL
  rw [← List.drop_drop (i := 257) (j := 4), List.take_append_drop, List.take_append_drop]

/-- The least normal number. -/
def tiny : FVec Ideal S1x1 .f32 := broadcastInDim S1x1 ![] bcast_S_S1x1 (constant S_ .f32 0x00800000#32 : FVec Ideal S_ .f32)

theorem opsF_tiny (V : Valuation τ sig (Elt Ideal)) : StableHlo.after opsF V (Proc.devRef .tc main_call0_call0_v1) = tiny := by
  simp only [opsF, hostOps0_1, List.take_succ_cons, List.take_zero]
  after_results
  all_goals try simp -implicitDefEqProofs only [StableHlo.TRef.toBuf, StableHlo.TRef.ofBuf, cast_cast, cast_eq]
  all_goals rfl

set_option maxRecDepth 100000 in
set_option maxHeartbeats 2000000 in
theorem opsM_above : Cert.Gumbel.Above 15 opsM := by
  simp only [opsM, hostOps0_1, List.drop_succ_cons, List.drop_zero, List.take_succ_cons, List.take_zero]
  iterate 257 (first
    | with_reducible refine Cert.Gumbel.Above.nullary ?_ ?_
      · rfl
    | with_reducible refine Cert.Gumbel.Above.unary ?_ ?_
      · rfl
    | with_reducible refine Cert.Gumbel.Above.binary ?_ ?_
      · rfl
    | with_reducible refine Cert.Gumbel.Above.reshape ?_ ?_
      · rfl)
  exact Cert.Gumbel.Above.nil _

/-- The noise from the uniform numbers `u` bounded below by `t`. -/
def gum (t : FVec Ideal S1x1 .f32) (u : FVec Ideal S32x1000000 .f32) : FVec Ideal S32x1000000 .f32 :=
  Host.negf (Host.log (Host.negf (Host.log (maximumf (broadcastInDim S32x1000000 ![0, 1] bcast_S1x1_S32x1000000_0_1 t) u))))

theorem opsL_gum (V : Valuation τ sig (Elt Ideal)) : StableHlo.after opsL V (Proc.devRef .tc main_v7)
    = gum (V (Proc.devRef .tc main_call0_call0_v1)) (V (Proc.devRef .tc main_call0_call0_v31)) := by
  simp only [opsL, hostOps0_1, List.drop_succ_cons, List.drop_zero]
  after_results
  all_goals try simp -implicitDefEqProofs only [StableHlo.TRef.toBuf, StableHlo.TRef.ofBuf, cast_cast, cast_eq]
  all_goals rfl

theorem log_pos {y : EReal} (h : 0 < y) : ⊥ < Ideal.log y := by
  induction y using EReal.rec with
  | bot => exact absurd h (by simp)
  | top => simp
  | coe r =>
    have hr : 0 < r := by exact_mod_cast h
    rw [Ideal.log_coe, if_neg (not_le.mpr hr)]
    exact EReal.bot_lt_coe _

theorem log_lt {y : EReal} (h : y < ⊤) : Ideal.log y < ⊤ := by
  induction y using EReal.rec with
  | bot => simp
  | top => exact absurd h (lt_irrefl _)
  | coe r =>
    rw [Ideal.log_coe]; split
    · exact bot_lt_top
    · exact EReal.coe_lt_top _

theorem tiny_pos : (0 : EReal) < Ideal.ofBits .f32 0x00800000#32 := by
  have h : Ideal.ofBits .f32 0x00800000#32 = ((8388608 * (2 ^ 149)⁻¹ : ℝ) : EReal) := by
    rw [EReal.coe_mul]; simp [Ideal.ofBits, Ideal.ieee]
  rw [h, ← EReal.coe_zero]
  exact EReal.coe_lt_coe (by positivity)

theorem gum_apply (t : FVec Ideal S1x1 .f32) (u : FVec Ideal S32x1000000 .f32) (j : S32x1000000.Idx) :
    (gum t u j : EReal)
      = -Ideal.log (-Ideal.log (max (broadcastInDim S32x1000000 ![0, 1] bcast_S1x1_S32x1000000_0_1 t j : EReal) (u j))) := rfl

theorem gum_tiny (u : FVec Ideal S32x1000000 .f32) (j : S32x1000000.Idx) : (⊥ : EReal) < gum tiny u j := by
  rw [gum_apply]
  have h1 : (0 : EReal) < max (broadcastInDim S32x1000000 ![0, 1] bcast_S1x1_S32x1000000_0_1 tiny j : EReal) (u j) :=
    lt_of_lt_of_le tiny_pos (le_max_left _ _)
  have h2 : -Ideal.log (max (broadcastInDim S32x1000000 ![0, 1] bcast_S1x1_S32x1000000_0_1 tiny j : EReal) (u j)) < ⊤ := by
    rw [EReal.neg_lt_comm, EReal.neg_top]; exact log_pos h1
  rw [EReal.lt_neg_comm, EReal.neg_bot]
  exact log_lt h2

/-- Whatever the operations start from, the noise is above minus infinity. -/
theorem noise_above (V : Valuation τ sig (Elt Ideal)) :
    ∀ j, (⊥ : EReal) < (StableHlo.after hostOps0_1 V (Proc.devRef .tc main_v7) : FVec Ideal S32x1000000 .f32) j := by
  intro j
  rw [split_eq, StableHlo.after_append, StableHlo.after_append, opsL_gum, opsM_above.keeps main_call0_call0_v1 (by decide), opsF_tiny]
  exact gum_tiny _ j

end Cert.KernelIdeal.Gumbel

end
-- ==== Proof.NoiseEq.lean ====
/- The two programs draw the same noise. -/
module

public import proofs.«01_k».proof.Proof.Noise
public import proofs.«01_k».proof.Proof.NoiseAbove
public import proofs.«01_k».proof.Proof.Blocks
public import proofs.«01_k».proof.Proof.RefRun

@[expose] public section

noncomputable section

namespace Cert.Gumbel

open Idealize.ShloMosaic Idealize.ShloMosaic.TcCoe Idealize.SL.Sem
open Cert.KernelIdeal.Gen (hostOps0 hostOps0_1)
open Cert.KernelIdeal.Gumbel (G)
open Cert.ReferenceIdeal.Gumbel (opsA opsN line VA RG)

variable [hR : Cert.ReferenceIdeal.Facts]
  (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's contents where the noise starts. -/
def VK : Valuation Cert.KernelIdeal.τ Cert.KernelIdeal.sig (Elt Ideal) :=
  StableHlo.after hostOps0 (fun b => m (c, b))

theorem G_eq : G m c = StableHlo.after hostOps0_1 (VK m c) (Proc.devRef .tc Cert.KernelIdeal.main_v7) := by
  unfold G VK
  simp only [Cert.KernelIdeal.Gen.V, Cert.KernelIdeal.Gen.V0, List.flatten_cons, List.flatten_nil, List.append_nil]
  rw [StableHlo.after_append]

/-- The key both programs draw from. -/
def theKey : IVec Cert.KernelIdeal.S2 32 :=
  concatenate Cert.KernelIdeal.S2 0
    [⟨Cert.KernelIdeal.S1, broadcastInDim Cert.KernelIdeal.S1 ![] Cert.KernelIdeal.Gen.bcast_S_S1
        (Host.shrui (constantI Cert.KernelIdeal.S_ 32 42#32) (constantI Cert.KernelIdeal.S_ 32 32#32))⟩,
     ⟨Cert.KernelIdeal.S1, broadcastInDim Cert.KernelIdeal.S1 ![] Cert.KernelIdeal.Gen.bcast_S_S1
        (andi (constantI Cert.KernelIdeal.S_ 32 42#32) (constantI Cert.KernelIdeal.S_ 32 4294967295#32))⟩]
    Cert.KernelIdeal.Gen.concatenates_S1_S1_S2_d0

theorem key_kernel (V : Valuation Cert.KernelIdeal.τ Cert.KernelIdeal.sig (Elt Ideal)) :
    (StableHlo.after hostOps0 V (Proc.devRef .tc Cert.KernelIdeal.main_v6) : IVec Cert.KernelIdeal.S2 32) = theKey := by
  after_results; rfl

theorem key_reference (V : Valuation Cert.ReferenceIdeal.τ Cert.ReferenceIdeal.sig (Elt Ideal)) :
    (StableHlo.after opsA V (Proc.devRef .tc Cert.ReferenceIdeal.main_v21) : IVec Cert.KernelIdeal.S2 32) = theKey := by
  simp only [opsA, line, List.take_succ_cons, List.take_zero]
  after_results; rfl

theorem keys (V : Valuation Cert.KernelIdeal.τ Cert.KernelIdeal.sig (Elt Ideal))
    (V' : Valuation Cert.ReferenceIdeal.τ Cert.ReferenceIdeal.sig (Elt Ideal)) :
    Sim.Same (StableHlo.after hostOps0 V) (StableHlo.after opsA V') (Cert.KernelIdeal.main_v6, Cert.ReferenceIdeal.main_v21) :=
  (heq_of_eq (key_kernel V)).trans (heq_of_eq (key_reference V')).symm

theorem noise_heq (V : Valuation Cert.KernelIdeal.τ Cert.KernelIdeal.sig (Elt Ideal))
    (V' : Valuation Cert.ReferenceIdeal.τ Cert.ReferenceIdeal.sig (Elt Ideal))
    (h : Sim.Same V V' (Cert.KernelIdeal.main_v6, Cert.ReferenceIdeal.main_v21)) :
    Sim.Same (StableHlo.after hostOps0_1 V) (StableHlo.after opsN V') (Cert.KernelIdeal.main_v7, Cert.ReferenceIdeal.main_v22) := by
  refine noise_sim V V' fun x x' hx => ?_
  obtain ⟨s, s', h1, h2, h3⟩ := hx
  have e : x.idx.val = Cert.KernelIdeal.main_v6.idx.val := by omega
  have e' : x'.idx.val = Cert.ReferenceIdeal.main_v21.idx.val := h3.trans (congrArg (· + 18) e)
  obtain rfl : x = Cert.KernelIdeal.main_v6 := Sim.ref_eq s e
  obtain rfl : x' = Cert.ReferenceIdeal.main_v21 := Sim.ref_eq s' e'
  exact h

/-- The noises are one array. -/
theorem noise_eq : G m c = RG m' c := by
  have h := noise_heq (VK m c) (VA m' c) (keys _ _)
  rw [G_eq]
  exact eq_of_heq h

/-- And above minus infinity. -/
theorem noise_bot (j : Cert.KernelIdeal.S32x1000000.Idx) : (⊥ : EReal) < G m c j := by
  rw [G_eq]
  exact Cert.KernelIdeal.Gumbel.noise_above _ j

end Cert.Gumbel

end
-- ==== Proof.Value.lean ====
/- The value claim: on proper logits the idealized kernel and the reference end with equal results. -/
module

public import proofs.«01_k».proof.Proof.ValueOut
public import proofs.«01_k».proof.Proof.KernelMath
public import proofs.«01_k».proof.Proof.RefTaken
public import proofs.«01_k».proof.Proof.PreRead
public import proofs.«01_k».proof.Proof.NoiseEq

@[expose] public section

noncomputable section

namespace Cert.Gumbel

open Cert.KernelIdeal.Gumbel (at1 at2 X G stN sampOut logpOut entOut down_apply sampOut_apply logpOut_apply entOut_apply yv yv_in kernel_run)
open Cert.ReferenceIdeal.Gumbel (rsamp rlogp rent rsamp_apply rlogp_apply rent_apply ref_run RG)
open Idealize.ShloMosaic Idealize.ShloMosaic.TcCoe Idealize.SL.Sem

theorem at1_eta (j : Cert.KernelIdeal.S32.Idx) : at1 (j 0) = j := by
  funext a; match a with | ⟨0, _⟩ => rfl

section Device

variable [hR : Cert.ReferenceIdeal.Facts] [hF : Cert.Pre_logits_proper.Facts]
  (m : (ℓ : Loc Cert.KernelIdeal.nD Cert.KernelIdeal.τ Cert.KernelIdeal.sig) → Buf (Elt Ideal) ℓ) (c : Dev Cert.KernelIdeal.nD)
  (hp : Cert.Pre_logits_proper.fn (F := Ideal) (X m c) = fun _ => 1#1)

include hp in
/-- A row's first column of greatest score, whose score is above minus infinity. -/
theorem row_first (r : Fin 32) : ∃ k, First (yv (X m c) (G m c) r) 1000000 k ∧ yv (X m c) (G m c) r k ≠ ⊥ := by
  obtain ⟨k, hk⟩ := exists_first (yv (X m c) (G m c) r) (n := 1000000) (by decide)
  obtain ⟨q, hq⟩ := (Cert.Pre_logits_proper.Gumbel.read (X m c) hp).2 r
  have hy : ⊥ < yv (X m c) (G m c) r q.val := by
    rw [yv_in _ _ r q.isLt]
    exact bot_lt_iff_ne_bot.mpr (EReal.add_ne_bot_iff.mpr ⟨hq.ne', (noise_bot m c _).ne'⟩)
  exact ⟨k, hk, (lt_of_lt_of_le hy (hk.le _ q.isLt)).ne'⟩

include hp in
theorem logits_lt (j : Cert.KernelIdeal.S32x1000000.Idx) : (X m c j : EReal) < ⊤ :=
  (Cert.Pre_logits_proper.Gumbel.read (X m c) hp).1 j

include hp in
theorem samp_row (r : Fin 32) :
    shapeCast Cert.KernelIdeal.S32 (sampOut (stN m c 62)) Cert.KernelIdeal.Gen.shapeCasts_S32x1_S32 (at1 r) = rsamp (X m c) (G m c) (at1 r) := by
  obtain ⟨k, hk, hb⟩ := row_first m c hp r
  rw [rsamp_apply _ _ r hk hb]
  exact (down_apply _ r).trans (sampOut_apply m c (logits_lt m c hp) r hk hb)

include hp in
theorem logp_row (r : Fin 32) :
    (shapeCast Cert.KernelIdeal.S32 (logpOut (stN m c 62)) Cert.KernelIdeal.Gen.shapeCasts_S32x1_S32 (at1 r) : EReal)
      = rlogp (X m c) (G m c) (at1 r) := by
  obtain ⟨k, hk, hb⟩ := row_first m c hp r
  rw [rlogp_apply _ _ (logits_lt m c hp) r hk hb]
  exact (down_apply _ r).trans (logpOut_apply m c (logits_lt m c hp) r hk hb)

include hp in
theorem ent_row (r : Fin 32) :
    (shapeCast Cert.KernelIdeal.S32 (entOut (stN m c 62)) Cert.KernelIdeal.Gen.shapeCasts_S32x1_S32 (at1 r) : EReal)
      = rent (X m c) (at1 r) := by
  obtain ⟨k, hk, hb⟩ := row_first m c hp r
  rw [rent_apply _ _ (logits_lt m c hp) r hk hb]
  exact (down_apply _ r).trans (entOut_apply m c (logits_lt m c hp) r hk hb)

/-- Arrays equal at every row are equal. -/
theorem rows_eq {α : Type} (f g : Cert.KernelIdeal.S32.Idx → α) (h : ∀ r : Fin 32, f (at1 r) = g (at1 r)) : f = g :=
  funext fun j => by rw [← at1_eta j]; exact h _

end Device

/-- The value claim. -/
theorem value [hR : Cert.ReferenceIdeal.Facts] [hF : Cert.Pre_logits_proper.Facts] :
    Cert.algebraic_KernelIdeal_ReferenceIdeal_pre_logits_proper := by
  intro m g m' g' hpre hagree
  refine ⟨_, _, _, kernel_run m g, (θ_run _ _ _).mono (fun r h c => ?_) (ref_run m' g')⟩
  obtain ⟨h0, h1, h2, h3⟩ := h c
  have e0 : Cert.ReferenceIdeal.Gumbel.RX m' c = X m c := hagree c
  have e1 : RG m' c = G m c := (noise_eq m m' c).symm
  rw [e0, e1] at h0 h1
  rw [e0] at h2
  exact ⟨h0.trans (rows_eq _ _ (samp_row m c (hpre c))).symm, h1.trans (rows_eq _ _ (logp_row m c (hpre c))).symm,
    h2.trans (rows_eq _ _ (ent_row m c (hpre c))).symm, h3⟩

end Cert.Gumbel

end
-- ==== Proof.lean ====
/- The claims, from the modules under Proof/: the frame of the kernel at bits and at extended reals, the frame of the
   reference, that the idealized kernel is the kernel (no operation was rewritten), and that on proper logits
   the kernel's three results are the reference's. -/
module

public import proofs.«01_k».proof.Defs
public import proofs.«01_k».proof.Proof.Transport
public import proofs.«01_k».proof.Proof.Value

@[expose] public section

noncomputable section

namespace Cert.Proof

open Idealize.ShloMosaic Idealize.SL.Sem

theorem claim : Cert.Claim :=
  have := Cert.Pre_logits_proper.Gumbel.facts
  ⟨Cert.Kernel.Gen.facts, Cert.KernelIdeal.Gen.facts, Cert.ReferenceIdeal.Gen.facts, Cert.Pre_logits_proper.Gumbel.facts,
    Cert.KernelIdeal.Gumbel.quiet_bits, fun m g _ => Cert.KernelIdeal.Gumbel.quiet m g,
    fun m g _ => Cert.KernelIdeal.Gumbel.quiet m g, Cert.ReferenceIdeal.Gumbel.quiet_ref,
    fun m g _ => Cert.ReferenceIdeal.Gumbel.quiet_ref m g trivial, trivial, Cert.Gumbel.value⟩

end Cert.Proof

end
